-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 2048]⟩ ⟨2, ![4096, 2048]⟩ (Layout.meshBlock [2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S2048 : Shape := ⟨1, ![2048]⟩
abbrev S2048x2048 : Shape := ⟨2, ![2048, 2048]⟩
abbrev S1024x2048 : Shape := ⟨2, ![1024, 2048]⟩
abbrev S32 : Shape := ⟨1, ![32]⟩
abbrev S_ : Shape := ⟨0, ![]⟩
abbrev S1 : Shape := ⟨1, ![1]⟩
abbrev S32x2048 : Shape := ⟨2, ![32, 2048]⟩
abbrev S1x32x2048 : Shape := ⟨3, ![1, 32, 2048]⟩
abbrev S1x1024x2048 : Shape := ⟨3, ![1, 1024, 2048]⟩
abbrev S32x1 : Shape := ⟨2, ![32, 1]⟩
abbrev S1x2048 : Shape := ⟨2, ![1, 2048]⟩

abbrev nBuf : Space → Nat
  | .hbm => 3
  | .vmem => 4
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S2048x2048, .f32⟩
  | .local _ .vmem, ⟨0, _⟩ => ⟨S2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | _, _ => ⟨S1x4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 194 → Bool
  | ⟨i, _⟩ => dmaSemScopedAt i

abbrev sig : RefSig :=
  (ofTc nBuf bufTy 1 194 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_16 : BitVec 32) : Fin 3 → Nat :=
  let c0_i32_17 : BitVec 32 := 0#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v17 : BitVec 32 := Scalar.subi c1_i32_12 v5
  let c2048_i32 : BitVec 32 := 2048#32
  let v18 : BitVec 32 := Scalar.muli v17 c2048_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v19 : BitVec 32 := Scalar.muli v2 c1024_i32
  let v20 : BitVec 32 := Scalar.addi v18 v19
  let v25 : BitVec 32 := Scalar.addi v20 c0_i32_16
  let c0_i32_21 : BitVec 32 := 0#32
  ![0, v25.toNat, 0]
def k0_off2 (d0 : Dev nD) : Fin 3 → Nat :=
  let c0_i32_148 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_13 : BitVec 32 := 2048#32
  let v21 : BitVec 32 := Scalar.muli v5 c2048_i32_13
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_14 : BitVec 32 := 1024#32
  let v22 : BitVec 32 := Scalar.muli v2 c1024_i32_14
  let v23 : BitVec 32 := Scalar.addi v21 v22
  let c0_i32_149 : BitVec 32 := 0#32
  ![0, v23.toNat, 0]
def k0_dev3 (d0 : Dev nD) : Nat :=
  let c0_i32_159 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_158 : BitVec 32 := 2#32
  let v225 : BitVec 32 := Scalar.muli v2 c2_i32_158
  let v226 : BitVec 32 := Scalar.addi c0_i32_159 v225
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_160 : BitVec 32 := 1#32
  let v227 : BitVec 32 := Scalar.muli v6 c1_i32_160
  let v228 : BitVec 32 := Scalar.addi v226 v227
  v228.toNat
def k0_dev4 (d0 : Dev nD) : Nat :=
  let c0_i32_174 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_173 : BitVec 32 := 2#32
  let v241 : BitVec 32 := Scalar.muli v2 c2_i32_173
  let v242 : BitVec 32 := Scalar.addi c0_i32_174 v241
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_175 : BitVec 32 := 1#32
  let v243 : BitVec 32 := Scalar.muli v6 c1_i32_175
  let v244 : BitVec 32 := Scalar.addi v242 v243
  v244.toNat
def k0_dev5 (d0 : Dev nD) : Nat :=
  let c0_i32_189 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_188 : BitVec 32 := 2#32
  let v257 : BitVec 32 := Scalar.muli v2 c2_i32_188
  let v258 : BitVec 32 := Scalar.addi c0_i32_189 v257
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_190 : BitVec 32 := 1#32
  let v259 : BitVec 32 := Scalar.muli v6 c1_i32_190
  let v260 : BitVec 32 := Scalar.addi v258 v259
  v260.toNat
def k0_dev6 (d0 : Dev nD) : Nat :=
  let c0_i32_204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_203 : BitVec 32 := 2#32
  let v273 : BitVec 32 := Scalar.muli v2 c2_i32_203
  let v274 : BitVec 32 := Scalar.addi c0_i32_204 v273
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_205 : BitVec 32 := 1#32
  let v275 : BitVec 32 := Scalar.muli v6 c1_i32_205
  let v276 : BitVec 32 := Scalar.addi v274 v275
  v276.toNat
def k0_dev7 (d0 : Dev nD) : Nat :=
  let c0_i32_219 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_218 : BitVec 32 := 2#32
  let v289 : BitVec 32 := Scalar.muli v2 c2_i32_218
  let v290 : BitVec 32 := Scalar.addi c0_i32_219 v289
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_220 : BitVec 32 := 1#32
  let v291 : BitVec 32 := Scalar.muli v6 c1_i32_220
  let v292 : BitVec 32 := Scalar.addi v290 v291
  v292.toNat
def k0_dev8 (d0 : Dev nD) : Nat :=
  let c0_i32_234 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_233 : BitVec 32 := 2#32
  let v305 : BitVec 32 := Scalar.muli v2 c2_i32_233
  let v306 : BitVec 32 := Scalar.addi c0_i32_234 v305
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_235 : BitVec 32 := 1#32
  let v307 : BitVec 32 := Scalar.muli v6 c1_i32_235
  let v308 : BitVec 32 := Scalar.addi v306 v307
  v308.toNat
def k0_dev9 (d0 : Dev nD) : Nat :=
  let c0_i32_249 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_248 : BitVec 32 := 2#32
  let v321 : BitVec 32 := Scalar.muli v2 c2_i32_248
  let v322 : BitVec 32 := Scalar.addi c0_i32_249 v321
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_250 : BitVec 32 := 1#32
  let v323 : BitVec 32 := Scalar.muli v6 c1_i32_250
  let v324 : BitVec 32 := Scalar.addi v322 v323
  v324.toNat
def k0_dev10 (d0 : Dev nD) : Nat :=
  let c0_i32_264 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_263 : BitVec 32 := 2#32
  let v337 : BitVec 32 := Scalar.muli v2 c2_i32_263
  let v338 : BitVec 32 := Scalar.addi c0_i32_264 v337
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_265 : BitVec 32 := 1#32
  let v339 : BitVec 32 := Scalar.muli v6 c1_i32_265
  let v340 : BitVec 32 := Scalar.addi v338 v339
  v340.toNat
def k0_dev11 (d0 : Dev nD) : Nat :=
  let c0_i32_279 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_278 : BitVec 32 := 2#32
  let v353 : BitVec 32 := Scalar.muli v2 c2_i32_278
  let v354 : BitVec 32 := Scalar.addi c0_i32_279 v353
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_280 : BitVec 32 := 1#32
  let v355 : BitVec 32 := Scalar.muli v6 c1_i32_280
  let v356 : BitVec 32 := Scalar.addi v354 v355
  v356.toNat
def k0_dev12 (d0 : Dev nD) : Nat :=
  let c0_i32_294 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_293 : BitVec 32 := 2#32
  let v369 : BitVec 32 := Scalar.muli v2 c2_i32_293
  let v370 : BitVec 32 := Scalar.addi c0_i32_294 v369
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_295 : BitVec 32 := 1#32
  let v371 : BitVec 32 := Scalar.muli v6 c1_i32_295
  let v372 : BitVec 32 := Scalar.addi v370 v371
  v372.toNat
def k0_dev13 (d0 : Dev nD) : Nat :=
  let c0_i32_309 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_308 : BitVec 32 := 2#32
  let v385 : BitVec 32 := Scalar.muli v2 c2_i32_308
  let v386 : BitVec 32 := Scalar.addi c0_i32_309 v385
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_310 : BitVec 32 := 1#32
  let v387 : BitVec 32 := Scalar.muli v6 c1_i32_310
  let v388 : BitVec 32 := Scalar.addi v386 v387
  v388.toNat
def k0_dev14 (d0 : Dev nD) : Nat :=
  let c0_i32_324 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_323 : BitVec 32 := 2#32
  let v401 : BitVec 32 := Scalar.muli v2 c2_i32_323
  let v402 : BitVec 32 := Scalar.addi c0_i32_324 v401
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_325 : BitVec 32 := 1#32
  let v403 : BitVec 32 := Scalar.muli v6 c1_i32_325
  let v404 : BitVec 32 := Scalar.addi v402 v403
  v404.toNat
def k0_dev15 (d0 : Dev nD) : Nat :=
  let c0_i32_339 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_338 : BitVec 32 := 2#32
  let v417 : BitVec 32 := Scalar.muli v2 c2_i32_338
  let v418 : BitVec 32 := Scalar.addi c0_i32_339 v417
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_340 : BitVec 32 := 1#32
  let v419 : BitVec 32 := Scalar.muli v6 c1_i32_340
  let v420 : BitVec 32 := Scalar.addi v418 v419
  v420.toNat
def k0_dev16 (d0 : Dev nD) : Nat :=
  let c0_i32_354 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_353 : BitVec 32 := 2#32
  let v433 : BitVec 32 := Scalar.muli v2 c2_i32_353
  let v434 : BitVec 32 := Scalar.addi c0_i32_354 v433
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_355 : BitVec 32 := 1#32
  let v435 : BitVec 32 := Scalar.muli v6 c1_i32_355
  let v436 : BitVec 32 := Scalar.addi v434 v435
  v436.toNat
def k0_dev17 (d0 : Dev nD) : Nat :=
  let c0_i32_369 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_368 : BitVec 32 := 2#32
  let v449 : BitVec 32 := Scalar.muli v2 c2_i32_368
  let v450 : BitVec 32 := Scalar.addi c0_i32_369 v449
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_370 : BitVec 32 := 1#32
  let v451 : BitVec 32 := Scalar.muli v6 c1_i32_370
  let v452 : BitVec 32 := Scalar.addi v450 v451
  v452.toNat
def k0_dev18 (d0 : Dev nD) : Nat :=
  let c0_i32_384 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_383 : BitVec 32 := 2#32
  let v465 : BitVec 32 := Scalar.muli v2 c2_i32_383
  let v466 : BitVec 32 := Scalar.addi c0_i32_384 v465
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_385 : BitVec 32 := 1#32
  let v467 : BitVec 32 := Scalar.muli v6 c1_i32_385
  let v468 : BitVec 32 := Scalar.addi v466 v467
  v468.toNat
def k0_dev19 (d0 : Dev nD) : Nat :=
  let c0_i32_399 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_398 : BitVec 32 := 2#32
  let v481 : BitVec 32 := Scalar.muli v2 c2_i32_398
  let v482 : BitVec 32 := Scalar.addi c0_i32_399 v481
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_400 : BitVec 32 := 1#32
  let v483 : BitVec 32 := Scalar.muli v6 c1_i32_400
  let v484 : BitVec 32 := Scalar.addi v482 v483
  v484.toNat
def k0_dev20 (d0 : Dev nD) : Nat :=
  let c0_i32_414 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_413 : BitVec 32 := 2#32
  let v497 : BitVec 32 := Scalar.muli v2 c2_i32_413
  let v498 : BitVec 32 := Scalar.addi c0_i32_414 v497
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_415 : BitVec 32 := 1#32
  let v499 : BitVec 32 := Scalar.muli v6 c1_i32_415
  let v500 : BitVec 32 := Scalar.addi v498 v499
  v500.toNat
def k0_dev21 (d0 : Dev nD) : Nat :=
  let c0_i32_429 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_428 : BitVec 32 := 2#32
  let v513 : BitVec 32 := Scalar.muli v2 c2_i32_428
  let v514 : BitVec 32 := Scalar.addi c0_i32_429 v513
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_430 : BitVec 32 := 1#32
  let v515 : BitVec 32 := Scalar.muli v6 c1_i32_430
  let v516 : BitVec 32 := Scalar.addi v514 v515
  v516.toNat
def k0_dev22 (d0 : Dev nD) : Nat :=
  let c0_i32_444 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_443 : BitVec 32 := 2#32
  let v529 : BitVec 32 := Scalar.muli v2 c2_i32_443
  let v530 : BitVec 32 := Scalar.addi c0_i32_444 v529
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_445 : BitVec 32 := 1#32
  let v531 : BitVec 32 := Scalar.muli v6 c1_i32_445
  let v532 : BitVec 32 := Scalar.addi v530 v531
  v532.toNat
def k0_dev23 (d0 : Dev nD) : Nat :=
  let c0_i32_459 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_458 : BitVec 32 := 2#32
  let v545 : BitVec 32 := Scalar.muli v2 c2_i32_458
  let v546 : BitVec 32 := Scalar.addi c0_i32_459 v545
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_460 : BitVec 32 := 1#32
  let v547 : BitVec 32 := Scalar.muli v6 c1_i32_460
  let v548 : BitVec 32 := Scalar.addi v546 v547
  v548.toNat
def k0_dev24 (d0 : Dev nD) : Nat :=
  let c0_i32_474 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_473 : BitVec 32 := 2#32
  let v561 : BitVec 32 := Scalar.muli v2 c2_i32_473
  let v562 : BitVec 32 := Scalar.addi c0_i32_474 v561
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_475 : BitVec 32 := 1#32
  let v563 : BitVec 32 := Scalar.muli v6 c1_i32_475
  let v564 : BitVec 32 := Scalar.addi v562 v563
  v564.toNat
def k0_dev25 (d0 : Dev nD) : Nat :=
  let c0_i32_489 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_488 : BitVec 32 := 2#32
  let v577 : BitVec 32 := Scalar.muli v2 c2_i32_488
  let v578 : BitVec 32 := Scalar.addi c0_i32_489 v577
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_490 : BitVec 32 := 1#32
  let v579 : BitVec 32 := Scalar.muli v6 c1_i32_490
  let v580 : BitVec 32 := Scalar.addi v578 v579
  v580.toNat
def k0_dev26 (d0 : Dev nD) : Nat :=
  let c0_i32_504 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_503 : BitVec 32 := 2#32
  let v593 : BitVec 32 := Scalar.muli v2 c2_i32_503
  let v594 : BitVec 32 := Scalar.addi c0_i32_504 v593
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_505 : BitVec 32 := 1#32
  let v595 : BitVec 32 := Scalar.muli v6 c1_i32_505
  let v596 : BitVec 32 := Scalar.addi v594 v595
  v596.toNat
def k0_dev27 (d0 : Dev nD) : Nat :=
  let c0_i32_519 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_518 : BitVec 32 := 2#32
  let v609 : BitVec 32 := Scalar.muli v2 c2_i32_518
  let v610 : BitVec 32 := Scalar.addi c0_i32_519 v609
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_520 : BitVec 32 := 1#32
  let v611 : BitVec 32 := Scalar.muli v6 c1_i32_520
  let v612 : BitVec 32 := Scalar.addi v610 v611
  v612.toNat
def k0_dev28 (d0 : Dev nD) : Nat :=
  let c0_i32_534 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_533 : BitVec 32 := 2#32
  let v625 : BitVec 32 := Scalar.muli v2 c2_i32_533
  let v626 : BitVec 32 := Scalar.addi c0_i32_534 v625
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_535 : BitVec 32 := 1#32
  let v627 : BitVec 32 := Scalar.muli v6 c1_i32_535
  let v628 : BitVec 32 := Scalar.addi v626 v627
  v628.toNat
def k0_dev29 (d0 : Dev nD) : Nat :=
  let c0_i32_549 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_548 : BitVec 32 := 2#32
  let v641 : BitVec 32 := Scalar.muli v2 c2_i32_548
  let v642 : BitVec 32 := Scalar.addi c0_i32_549 v641
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_550 : BitVec 32 := 1#32
  let v643 : BitVec 32 := Scalar.muli v6 c1_i32_550
  let v644 : BitVec 32 := Scalar.addi v642 v643
  v644.toNat
def k0_dev30 (d0 : Dev nD) : Nat :=
  let c0_i32_564 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_563 : BitVec 32 := 2#32
  let v657 : BitVec 32 := Scalar.muli v2 c2_i32_563
  let v658 : BitVec 32 := Scalar.addi c0_i32_564 v657
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_565 : BitVec 32 := 1#32
  let v659 : BitVec 32 := Scalar.muli v6 c1_i32_565
  let v660 : BitVec 32 := Scalar.addi v658 v659
  v660.toNat
def k0_dev31 (d0 : Dev nD) : Nat :=
  let c0_i32_579 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_578 : BitVec 32 := 2#32
  let v673 : BitVec 32 := Scalar.muli v2 c2_i32_578
  let v674 : BitVec 32 := Scalar.addi c0_i32_579 v673
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_580 : BitVec 32 := 1#32
  let v675 : BitVec 32 := Scalar.muli v6 c1_i32_580
  let v676 : BitVec 32 := Scalar.addi v674 v675
  v676.toNat
def k0_dev32 (d0 : Dev nD) : Nat :=
  let c0_i32_594 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_593 : BitVec 32 := 2#32
  let v689 : BitVec 32 := Scalar.muli v2 c2_i32_593
  let v690 : BitVec 32 := Scalar.addi c0_i32_594 v689
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_595 : BitVec 32 := 1#32
  let v691 : BitVec 32 := Scalar.muli v6 c1_i32_595
  let v692 : BitVec 32 := Scalar.addi v690 v691
  v692.toNat
def k0_dev33 (d0 : Dev nD) : Nat :=
  let c0_i32_609 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_608 : BitVec 32 := 2#32
  let v705 : BitVec 32 := Scalar.muli v2 c2_i32_608
  let v706 : BitVec 32 := Scalar.addi c0_i32_609 v705
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_610 : BitVec 32 := 1#32
  let v707 : BitVec 32 := Scalar.muli v6 c1_i32_610
  let v708 : BitVec 32 := Scalar.addi v706 v707
  v708.toNat
def k0_dev34 (d0 : Dev nD) : Nat :=
  let c0_i32_624 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_623 : BitVec 32 := 2#32
  let v721 : BitVec 32 := Scalar.muli v2 c2_i32_623
  let v722 : BitVec 32 := Scalar.addi c0_i32_624 v721
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_625 : BitVec 32 := 1#32
  let v723 : BitVec 32 := Scalar.muli v6 c1_i32_625
  let v724 : BitVec 32 := Scalar.addi v722 v723
  v724.toNat
def k0_off3 (d0 : Dev nD) (c0_i32_649 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_15 : BitVec 32 := 1024#32
  let v24 : BitVec 32 := Scalar.muli v2 c1024_i32_15
  let v762 : BitVec 32 := Scalar.addi v24 c0_i32_649
  let c0_i32_655 : BitVec 32 := 0#32
  ![v762.toNat, 0]
def k0_dev35 (d0 : Dev nD) : Nat :=
  let c0_i32_653 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_652 : BitVec 32 := 2#32
  let v763 : BitVec 32 := Scalar.muli v7 c2_i32_652
  let v764 : BitVec 32 := Scalar.addi c0_i32_653 v763
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_654 : BitVec 32 := 1#32
  let v765 : BitVec 32 := Scalar.muli v5 c1_i32_654
  let v766 : BitVec 32 := Scalar.addi v764 v765
  v766.toNat
def k0_dev36 (d0 : Dev nD) : Nat :=
  let c0_i32_685 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_684 : BitVec 32 := 2#32
  let v808 : BitVec 32 := Scalar.muli v7 c2_i32_684
  let v809 : BitVec 32 := Scalar.addi c0_i32_685 v808
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_686 : BitVec 32 := 1#32
  let v810 : BitVec 32 := Scalar.muli v5 c1_i32_686
  let v811 : BitVec 32 := Scalar.addi v809 v810
  v811.toNat
def k0_dev37 (d0 : Dev nD) : Nat :=
  let c0_i32_717 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_716 : BitVec 32 := 2#32
  let v853 : BitVec 32 := Scalar.muli v7 c2_i32_716
  let v854 : BitVec 32 := Scalar.addi c0_i32_717 v853
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_718 : BitVec 32 := 1#32
  let v855 : BitVec 32 := Scalar.muli v5 c1_i32_718
  let v856 : BitVec 32 := Scalar.addi v854 v855
  v856.toNat
def k0_dev38 (d0 : Dev nD) : Nat :=
  let c0_i32_749 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_748 : BitVec 32 := 2#32
  let v898 : BitVec 32 := Scalar.muli v7 c2_i32_748
  let v899 : BitVec 32 := Scalar.addi c0_i32_749 v898
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_750 : BitVec 32 := 1#32
  let v900 : BitVec 32 := Scalar.muli v5 c1_i32_750
  let v901 : BitVec 32 := Scalar.addi v899 v900
  v901.toNat
def k0_dev39 (d0 : Dev nD) : Nat :=
  let c0_i32_781 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_780 : BitVec 32 := 2#32
  let v943 : BitVec 32 := Scalar.muli v7 c2_i32_780
  let v944 : BitVec 32 := Scalar.addi c0_i32_781 v943
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_782 : BitVec 32 := 1#32
  let v945 : BitVec 32 := Scalar.muli v5 c1_i32_782
  let v946 : BitVec 32 := Scalar.addi v944 v945
  v946.toNat
def k0_dev40 (d0 : Dev nD) : Nat :=
  let c0_i32_813 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_812 : BitVec 32 := 2#32
  let v988 : BitVec 32 := Scalar.muli v7 c2_i32_812
  let v989 : BitVec 32 := Scalar.addi c0_i32_813 v988
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_814 : BitVec 32 := 1#32
  let v990 : BitVec 32 := Scalar.muli v5 c1_i32_814
  let v991 : BitVec 32 := Scalar.addi v989 v990
  v991.toNat
def k0_dev41 (d0 : Dev nD) : Nat :=
  let c0_i32_845 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_844 : BitVec 32 := 2#32
  let v1033 : BitVec 32 := Scalar.muli v7 c2_i32_844
  let v1034 : BitVec 32 := Scalar.addi c0_i32_845 v1033
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_846 : BitVec 32 := 1#32
  let v1035 : BitVec 32 := Scalar.muli v5 c1_i32_846
  let v1036 : BitVec 32 := Scalar.addi v1034 v1035
  v1036.toNat
def k0_dev42 (d0 : Dev nD) : Nat :=
  let c0_i32_877 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_876 : BitVec 32 := 2#32
  let v1078 : BitVec 32 := Scalar.muli v7 c2_i32_876
  let v1079 : BitVec 32 := Scalar.addi c0_i32_877 v1078
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_878 : BitVec 32 := 1#32
  let v1080 : BitVec 32 := Scalar.muli v5 c1_i32_878
  let v1081 : BitVec 32 := Scalar.addi v1079 v1080
  v1081.toNat
def k0_dev43 (d0 : Dev nD) : Nat :=
  let c0_i32_909 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_908 : BitVec 32 := 2#32
  let v1123 : BitVec 32 := Scalar.muli v7 c2_i32_908
  let v1124 : BitVec 32 := Scalar.addi c0_i32_909 v1123
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_910 : BitVec 32 := 1#32
  let v1125 : BitVec 32 := Scalar.muli v5 c1_i32_910
  let v1126 : BitVec 32 := Scalar.addi v1124 v1125
  v1126.toNat
def k0_dev44 (d0 : Dev nD) : Nat :=
  let c0_i32_941 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_940 : BitVec 32 := 2#32
  let v1168 : BitVec 32 := Scalar.muli v7 c2_i32_940
  let v1169 : BitVec 32 := Scalar.addi c0_i32_941 v1168
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_942 : BitVec 32 := 1#32
  let v1170 : BitVec 32 := Scalar.muli v5 c1_i32_942
  let v1171 : BitVec 32 := Scalar.addi v1169 v1170
  v1171.toNat
def k0_dev45 (d0 : Dev nD) : Nat :=
  let c0_i32_973 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_972 : BitVec 32 := 2#32
  let v1213 : BitVec 32 := Scalar.muli v7 c2_i32_972
  let v1214 : BitVec 32 := Scalar.addi c0_i32_973 v1213
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_974 : BitVec 32 := 1#32
  let v1215 : BitVec 32 := Scalar.muli v5 c1_i32_974
  let v1216 : BitVec 32 := Scalar.addi v1214 v1215
  v1216.toNat
def k0_dev46 (d0 : Dev nD) : Nat :=
  let c0_i32_1005 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1004 : BitVec 32 := 2#32
  let v1258 : BitVec 32 := Scalar.muli v7 c2_i32_1004
  let v1259 : BitVec 32 := Scalar.addi c0_i32_1005 v1258
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1006 : BitVec 32 := 1#32
  let v1260 : BitVec 32 := Scalar.muli v5 c1_i32_1006
  let v1261 : BitVec 32 := Scalar.addi v1259 v1260
  v1261.toNat
def k0_dev47 (d0 : Dev nD) : Nat :=
  let c0_i32_1037 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1036 : BitVec 32 := 2#32
  let v1303 : BitVec 32 := Scalar.muli v7 c2_i32_1036
  let v1304 : BitVec 32 := Scalar.addi c0_i32_1037 v1303
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1038 : BitVec 32 := 1#32
  let v1305 : BitVec 32 := Scalar.muli v5 c1_i32_1038
  let v1306 : BitVec 32 := Scalar.addi v1304 v1305
  v1306.toNat
def k0_dev48 (d0 : Dev nD) : Nat :=
  let c0_i32_1069 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1068 : BitVec 32 := 2#32
  let v1348 : BitVec 32 := Scalar.muli v7 c2_i32_1068
  let v1349 : BitVec 32 := Scalar.addi c0_i32_1069 v1348
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1070 : BitVec 32 := 1#32
  let v1350 : BitVec 32 := Scalar.muli v5 c1_i32_1070
  let v1351 : BitVec 32 := Scalar.addi v1349 v1350
  v1351.toNat
def k0_dev49 (d0 : Dev nD) : Nat :=
  let c0_i32_1101 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1100 : BitVec 32 := 2#32
  let v1393 : BitVec 32 := Scalar.muli v7 c2_i32_1100
  let v1394 : BitVec 32 := Scalar.addi c0_i32_1101 v1393
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1102 : BitVec 32 := 1#32
  let v1395 : BitVec 32 := Scalar.muli v5 c1_i32_1102
  let v1396 : BitVec 32 := Scalar.addi v1394 v1395
  v1396.toNat
def k0_dev50 (d0 : Dev nD) : Nat :=
  let c0_i32_1133 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1132 : BitVec 32 := 2#32
  let v1438 : BitVec 32 := Scalar.muli v7 c2_i32_1132
  let v1439 : BitVec 32 := Scalar.addi c0_i32_1133 v1438
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1134 : BitVec 32 := 1#32
  let v1440 : BitVec 32 := Scalar.muli v5 c1_i32_1134
  let v1441 : BitVec 32 := Scalar.addi v1439 v1440
  v1441.toNat
def k0_dev51 (d0 : Dev nD) : Nat :=
  let c0_i32_1165 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1164 : BitVec 32 := 2#32
  let v1483 : BitVec 32 := Scalar.muli v7 c2_i32_1164
  let v1484 : BitVec 32 := Scalar.addi c0_i32_1165 v1483
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1166 : BitVec 32 := 1#32
  let v1485 : BitVec 32 := Scalar.muli v5 c1_i32_1166
  let v1486 : BitVec 32 := Scalar.addi v1484 v1485
  v1486.toNat
def k0_dev52 (d0 : Dev nD) : Nat :=
  let c0_i32_1197 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1196 : BitVec 32 := 2#32
  let v1528 : BitVec 32 := Scalar.muli v7 c2_i32_1196
  let v1529 : BitVec 32 := Scalar.addi c0_i32_1197 v1528
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1198 : BitVec 32 := 1#32
  let v1530 : BitVec 32 := Scalar.muli v5 c1_i32_1198
  let v1531 : BitVec 32 := Scalar.addi v1529 v1530
  v1531.toNat
def k0_dev53 (d0 : Dev nD) : Nat :=
  let c0_i32_1229 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1228 : BitVec 32 := 2#32
  let v1573 : BitVec 32 := Scalar.muli v7 c2_i32_1228
  let v1574 : BitVec 32 := Scalar.addi c0_i32_1229 v1573
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1230 : BitVec 32 := 1#32
  let v1575 : BitVec 32 := Scalar.muli v5 c1_i32_1230
  let v1576 : BitVec 32 := Scalar.addi v1574 v1575
  v1576.toNat
def k0_dev54 (d0 : Dev nD) : Nat :=
  let c0_i32_1261 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1260 : BitVec 32 := 2#32
  let v1618 : BitVec 32 := Scalar.muli v7 c2_i32_1260
  let v1619 : BitVec 32 := Scalar.addi c0_i32_1261 v1618
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1262 : BitVec 32 := 1#32
  let v1620 : BitVec 32 := Scalar.muli v5 c1_i32_1262
  let v1621 : BitVec 32 := Scalar.addi v1619 v1620
  v1621.toNat
def k0_dev55 (d0 : Dev nD) : Nat :=
  let c0_i32_1293 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1292 : BitVec 32 := 2#32
  let v1663 : BitVec 32 := Scalar.muli v7 c2_i32_1292
  let v1664 : BitVec 32 := Scalar.addi c0_i32_1293 v1663
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1294 : BitVec 32 := 1#32
  let v1665 : BitVec 32 := Scalar.muli v5 c1_i32_1294
  let v1666 : BitVec 32 := Scalar.addi v1664 v1665
  v1666.toNat
def k0_dev56 (d0 : Dev nD) : Nat :=
  let c0_i32_1325 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1324 : BitVec 32 := 2#32
  let v1708 : BitVec 32 := Scalar.muli v7 c2_i32_1324
  let v1709 : BitVec 32 := Scalar.addi c0_i32_1325 v1708
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1326 : BitVec 32 := 1#32
  let v1710 : BitVec 32 := Scalar.muli v5 c1_i32_1326
  let v1711 : BitVec 32 := Scalar.addi v1709 v1710
  v1711.toNat
def k0_dev57 (d0 : Dev nD) : Nat :=
  let c0_i32_1357 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1356 : BitVec 32 := 2#32
  let v1753 : BitVec 32 := Scalar.muli v7 c2_i32_1356
  let v1754 : BitVec 32 := Scalar.addi c0_i32_1357 v1753
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1358 : BitVec 32 := 1#32
  let v1755 : BitVec 32 := Scalar.muli v5 c1_i32_1358
  let v1756 : BitVec 32 := Scalar.addi v1754 v1755
  v1756.toNat
def k0_dev58 (d0 : Dev nD) : Nat :=
  let c0_i32_1389 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1388 : BitVec 32 := 2#32
  let v1798 : BitVec 32 := Scalar.muli v7 c2_i32_1388
  let v1799 : BitVec 32 := Scalar.addi c0_i32_1389 v1798
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1390 : BitVec 32 := 1#32
  let v1800 : BitVec 32 := Scalar.muli v5 c1_i32_1390
  let v1801 : BitVec 32 := Scalar.addi v1799 v1800
  v1801.toNat
def k0_dev59 (d0 : Dev nD) : Nat :=
  let c0_i32_1421 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1420 : BitVec 32 := 2#32
  let v1843 : BitVec 32 := Scalar.muli v7 c2_i32_1420
  let v1844 : BitVec 32 := Scalar.addi c0_i32_1421 v1843
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1422 : BitVec 32 := 1#32
  let v1845 : BitVec 32 := Scalar.muli v5 c1_i32_1422
  let v1846 : BitVec 32 := Scalar.addi v1844 v1845
  v1846.toNat
def k0_dev60 (d0 : Dev nD) : Nat :=
  let c0_i32_1453 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1452 : BitVec 32 := 2#32
  let v1888 : BitVec 32 := Scalar.muli v7 c2_i32_1452
  let v1889 : BitVec 32 := Scalar.addi c0_i32_1453 v1888
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1454 : BitVec 32 := 1#32
  let v1890 : BitVec 32 := Scalar.muli v5 c1_i32_1454
  let v1891 : BitVec 32 := Scalar.addi v1889 v1890
  v1891.toNat
def k0_dev61 (d0 : Dev nD) : Nat :=
  let c0_i32_1485 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1484 : BitVec 32 := 2#32
  let v1933 : BitVec 32 := Scalar.muli v7 c2_i32_1484
  let v1934 : BitVec 32 := Scalar.addi c0_i32_1485 v1933
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1486 : BitVec 32 := 1#32
  let v1935 : BitVec 32 := Scalar.muli v5 c1_i32_1486
  let v1936 : BitVec 32 := Scalar.addi v1934 v1935
  v1936.toNat
def k0_dev62 (d0 : Dev nD) : Nat :=
  let c0_i32_1517 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1516 : BitVec 32 := 2#32
  let v1978 : BitVec 32 := Scalar.muli v7 c2_i32_1516
  let v1979 : BitVec 32 := Scalar.addi c0_i32_1517 v1978
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1518 : BitVec 32 := 1#32
  let v1980 : BitVec 32 := Scalar.muli v5 c1_i32_1518
  let v1981 : BitVec 32 := Scalar.addi v1979 v1980
  v1981.toNat
def k0_dev63 (d0 : Dev nD) : Nat :=
  let c0_i32_1549 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1548 : BitVec 32 := 2#32
  let v2023 : BitVec 32 := Scalar.muli v7 c2_i32_1548
  let v2024 : BitVec 32 := Scalar.addi c0_i32_1549 v2023
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1550 : BitVec 32 := 1#32
  let v2025 : BitVec 32 := Scalar.muli v5 c1_i32_1550
  let v2026 : BitVec 32 := Scalar.addi v2024 v2025
  v2026.toNat
def k0_dev64 (d0 : Dev nD) : Nat :=
  let c0_i32_1581 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1580 : BitVec 32 := 2#32
  let v2068 : BitVec 32 := Scalar.muli v7 c2_i32_1580
  let v2069 : BitVec 32 := Scalar.addi c0_i32_1581 v2068
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1582 : BitVec 32 := 1#32
  let v2070 : BitVec 32 := Scalar.muli v5 c1_i32_1582
  let v2071 : BitVec 32 := Scalar.addi v2069 v2070
  v2071.toNat
def k0_dev65 (d0 : Dev nD) : Nat :=
  let c0_i32_1613 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1612 : BitVec 32 := 2#32
  let v2113 : BitVec 32 := Scalar.muli v7 c2_i32_1612
  let v2114 : BitVec 32 := Scalar.addi c0_i32_1613 v2113
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1614 : BitVec 32 := 1#32
  let v2115 : BitVec 32 := Scalar.muli v5 c1_i32_1614
  let v2116 : BitVec 32 := Scalar.addi v2114 v2115
  v2116.toNat
def k0_dev66 (d0 : Dev nD) : Nat :=
  let c0_i32_1645 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1644 : BitVec 32 := 2#32
  let v2158 : BitVec 32 := Scalar.muli v7 c2_i32_1644
  let v2159 : BitVec 32 := Scalar.addi c0_i32_1645 v2158
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1646 : BitVec 32 := 1#32
  let v2160 : BitVec 32 := Scalar.muli v5 c1_i32_1646
  let v2161 : BitVec 32 := Scalar.addi v2159 v2160
  v2161.toNat
def k0_off4 (d0 : Dev nD) (c0_i32_1657 : BitVec 32) : Fin 2 → Nat :=
  let c1_i32_1655 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2173 : BitVec 32 := Scalar.subi c1_i32_1655 v2
  let c1024_i32_1656 : BitVec 32 := 1024#32
  let v2174 : BitVec 32 := Scalar.muli v2173 c1024_i32_1656
  let v2175 : BitVec 32 := Scalar.addi v2174 c0_i32_1657
  let c0_i32_1663 : BitVec 32 := 0#32
  ![v2175.toNat, 0]
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S2048 : Shape := ⟨1, ![2048]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdealPieces.lean ====
/-
# The kernel's body as loops over its thirty-two pieces

The kernel cuts a device's quarter of the rows into thirty-two pieces of thirty-two rows and writes every loop over
the pieces out. Here the same body is stated as loops: `prog` is the kernel's text with each written-out loop one
`each` over the piece's number, and `body_eq` says that the body the program runs is `prog`. What is proved of the
body is then proved once per loop, at a symbolic piece.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

noncomputable section

namespace Cert.KernelIdealProof

open Cert.KernelIdeal Cert.KernelIdeal.Gen

open Idealize.ShloMosaic
open Idealize.ShloMosaic.TcCoe
open Idealize.SL Idealize.SL.Sem

variable {F : FTy → Type} [FloatOps F]

/-- The programs a device's core runs. -/
abbrev Code (F : FTy → Type) [FloatOps F] (α : Type) : Type 1 := Prog (TpuEff nD τ sig (Elt F) Λ₀ .tc) α

/-! ## Buffers, pieces and semaphores -/

/-- The device's block of the summands. -/
abbrev pM : Memref sig .tc .hbm S1x4096x2048 .f32 := Memref.whole main_arg0
/-- The staged scale vector. -/
abbrev gM : Memref sig .tc .vmem S2048 .f32 := Memref.whole cc0_stg0_0
/-- The device's block of the result. -/
abbrev oM : Memref sig .tc .hbm S2048x2048 .f32 := Memref.whole main_v1
/-- Where the neighbour along `y` puts its rows. -/
abbrev cM : Memref sig .tc .vmem S1024x2048 .f32 := Memref.whole cc0_scratch0
/-- Where the rows to send along `y` are staged. -/
abbrev sM : Memref sig .tc .vmem S1024x2048 .f32 := Memref.whole cc0_scratch1
/-- Where the device's own rows are summed and normalised. -/
abbrev rM : Memref sig .tc .vmem S1024x2048 .f32 := Memref.whole cc0_scratch2

theorem inbK (k : Fin 32) : ∀ a, (![32 * k.val, 0] : Fin 2 → ℕ) a + S32x2048.size a ≤ S1024x2048.size a := by
  revert k; decide
theorem inbS (k : Fin 32) : ∀ a, (![k.val] : Fin 1 → ℕ) a + S1.size a ≤ S32.size a := by
  revert k; decide

/-- The rows of piece `k` of a quarter. -/
abbrev rK (k : Fin 32) : Rect S1024x2048 := Rect.unit (s := S1024x2048) ![32 * k.val, 0] S32x2048.size (inbK k)

/-- Piece `k` of a scratch buffer. -/
abbrev pc (M : Memref sig .tc .vmem S1024x2048 .f32) (k : Fin 32) : Memref sig .tc .vmem S32x2048 .f32 := M.slice (rK k) (fun _ => rfl)

/-- The offset word of piece `k`. -/
abbrev wK (k : Fin 32) : BitVec 32 := BitVec.ofNat 32 (32 * k.val)

/-- Piece `k` of the rows of the summands that device `d` sends along `y`. -/
abbrev srcK (d : Dev nD) (k : Fin 32) : Memref sig .tc .hbm S32x2048 .f32 :=
  (pM.slice (Rect.unit (s := S1x4096x2048) (k0_off1 d (wK k)) S1x32x2048.size (k0_off1_inb d k)) (fun _ => rfl)).squeeze S32x2048 squeezes_S1x32x2048_S32x2048
/-- The rows of the summands that device `d` keeps. -/
abbrev ownM (d : Dev nD) : Memref sig .tc .hbm S1024x2048 .f32 :=
  (pM.slice (Rect.unit (s := S1x4096x2048) (k0_off2 d) S1x1024x2048.size (k0_off2_inb d)) (fun _ => rfl)).squeeze S1024x2048 squeezes_S1x1024x2048_S1024x2048
/-- Piece `k` of the result's rows that device `d` computes. -/
abbrev outK (d : Dev nD) (k : Fin 32) : Memref sig .tc .hbm S32x2048 .f32 :=
  oM.slice (Rect.unit (s := S2048x2048) (k0_off3 d (wK k)) S32x2048.size (k0_off3_inb d k)) (fun _ => rfl)
/-- Piece `k` of the result's rows that device `d` gets from its neighbour along `x`. -/
abbrev inK (d : Dev nD) (k : Fin 32) : Memref sig .tc .hbm S32x2048 .f32 :=
  oM.slice (Rect.unit (s := S2048x2048) (k0_off4 d (wK k)) S32x2048.size (k0_off4_inb d k)) (fun _ => rfl)

/-- Semaphore `k` of an array of thirty-two. -/
abbrev semK (A : DmaSems sig S32) (k : Fin 32) : DmaSem sig :=
  ((A.slice (Rect.unit (s := S32) ![k.val] S1.size (inbS k))).squeeze S_ squeezes_S1_S_).sem

/-- The barrier semaphore. -/
abbrev barS : Sem sig := (SemArray.scalar (d := ![]) (sig.barrier 0 rfl) : Sems sig S_).sem

/-! ## The phases -/

/-- One program per piece, in order. -/
def each (f : Fin 32 → Code F PUnit) : List (Fin 32) → Code F PUnit
  | [] => pure ⟨⟩
  | k :: ks => f k >>= fun _ => each f ks

/-- Every piece, in order. -/
abbrev pieces : List (Fin 32) := List.finRange 32

/-- The device along `y`. -/
abbrev yW (d : Dev nD) : Dev nD := ⟨k0_dev1 d, k0_dev1_lt d⟩
/-- The device along `x`. -/
abbrev xW (d : Dev nD) : Dev nD := ⟨k0_dev2 d, k0_dev2_lt d⟩

/-- Both neighbours are told that this device has started, and both are waited for. -/
def hand (d : Dev nD) : Code F PUnit := do
  semSignalWord (yW d) barS 1#32
  semSignalWord (xW d) barS 1#32
  semWaitWord barS 2#32

/-- Piece `k` of the rows to send starts on its way to the stage. -/
def stageStart (d : Dev nD) (k : Fin 32) : Code F PUnit :=
  Prog.lift (.enqueueDma (srcK d k) (.here (pc sM k)) (.dma (semK cc0_scratch8 k)) ((View.wordExact_bits rfl).reshape _ _) (View.wordExact_bits rfl) ⟨Or.inl rfl, trivial⟩)

/-- The rows to keep start on their way. -/
def ownStart (d : Dev nD) : Code F PUnit :=
  Prog.lift (.enqueueDma (ownM d) (.here rM) (.dma cc0_scratch7.sem) ((View.wordExact_bits rfl).reshape _ _) (Memref.isWhole_whole cc0_scratch2).wordExact ⟨Or.inl rfl, trivial⟩)

/-- Piece `k` is staged; it is sent along `y`. -/
def ySend (d : Dev nD) (k : Fin 32) : Code F PUnit := do
  Prog.lift (.waitDma2 (semK cc0_scratch8 k) (srcK d k) (pc sM k) ((View.wordExact_bits rfl).reshape _ _) (View.wordExact_bits rfl))
  Prog.lift (.enqueueDma (pc sM k) (.remote (Dev.tc (yW d)) (pc cM k) (.dma (semK cc0_scratch3 k))) (.dma (semK cc0_scratch4 k)) (View.wordExact_bits rfl) (View.wordExact_bits rfl) ⟨⟨rfl, Or.inl rfl⟩, trivial⟩)

/-- The rows to keep have come. -/
def ownWait (d : Dev nD) : Code F PUnit :=
  Prog.lift (.waitDma2 cc0_scratch7.sem (ownM d) rM ((View.wordExact_bits rfl).reshape _ _) (Memref.isWhole_whole cc0_scratch2).wordExact)

/-- What a piece's rows become: the sum of the two summands, each row over the root of its mean square (and the small
    constant), times the scale vector. -/
def normed (a b : Vec F S32x2048 .f32) (g : Vec F S2048 .f32) : FVec F S32x2048 .f32 := k0_pay4 a b g

/-- Piece `k` has come from along `y`; it is added, normalised, sent along `x` and copied out. -/
def compute (d : Dev nD) (k : Fin 32) : Code F PUnit := do
  Prog.lift (.waitDma2 (semK cc0_scratch4 k) (pc sM k) (pc cM k) (View.wordExact_bits rfl) (View.wordExact_bits rfl))
  let a : Vec F S32x2048 .f32 ← Prog.lift (.load rM (rK k).toLoadRect (View.loadsAt_vmem h_S32x2048))
  let b : Vec F S32x2048 .f32 ← Prog.lift (.load cM (rK k).toLoadRect (View.loadsAt_vmem h_S32x2048))
  let g : Vec F S2048 .f32 ← Prog.lift (.load gM (Rect.unit (s := S2048) ![0] S2048.size inb_S2048_S2048_0).toLoadRect (View.loadsAt_vmem h_S2048))
  let _ : Vec F S32x2048 .f32 ← Prog.lift (.load rM (rK k).toLoadRect (View.loadsAt_vmem h_S32x2048))
  Prog.lift (.store rM (rK k) (normed a b g) Finset.univ (View.stores_vmem_bits_univ h_S32x2048 rfl) (.inl rfl))
  Prog.lift (.enqueueDma (pc rM k) (.remote (Dev.tc (xW d)) (outK d k) (.dma (semK cc0_scratch5 k))) (.dma (semK cc0_scratch6 k)) (View.wordExact_bits rfl) (View.wordExact_bits rfl) ⟨⟨rfl, Or.inl rfl⟩, trivial⟩)
  Prog.lift (.enqueueDma (pc rM k) (.here (outK d k)) (.dma (semK cc0_scratch9 k)) (View.wordExact_bits rfl) (View.wordExact_bits rfl) ⟨Or.inl rfl, trivial⟩)

/-- Piece `k` has come from along `x`, and the own one is out. -/
def xWait (d : Dev nD) (k : Fin 32) : Code F PUnit := do
  Prog.lift (.waitDma2 (semK cc0_scratch6 k) (pc rM k) (inK d k) (View.wordExact_bits rfl) (View.wordExact_bits rfl))
  Prog.lift (.waitDma2 (semK cc0_scratch9 k) (pc rM k) (outK d k) (View.wordExact_bits rfl) (View.wordExact_bits rfl))

/-- Both of this device's own sends of piece `k` are over. -/
def sendWait (d : Dev nD) (k : Fin 32) : Code F PUnit := do
  Prog.lift (.waitDma2 (semK cc0_scratch3 k) (pc cM k) (pc sM k) (View.wordExact_bits rfl) (View.wordExact_bits rfl))
  Prog.lift (.waitDma2 (semK cc0_scratch5 k) (outK d k) (pc rM k) (View.wordExact_bits rfl) (View.wordExact_bits rfl))

/-- The kernel's body. -/
def prog : Code F PUnit := do
  let d : Dev nD ← Prog.lift .deviceId
  hand d
  each (stageStart d) pieces
  ownStart d
  each (ySend d) pieces
  ownWait d
  each (compute d) pieces
  each (xWait d) pieces
  each (sendWait d) pieces

set_option maxRecDepth 65536 in
/-- The body the program runs is `prog`. -/
theorem body_eq : bodyAt0 (F := F) t0_0 = prog := by
  chain_rfl

end Cert.KernelIdealProof

end
-- ==== Proof.KernelIdealRows.lean ====
/-
# Which rows the pieces are, and what they hold

Device `c` of the mesh is `(c / 2, c % 2)`. It keeps the quarter `c / 2` of the row block `c % 2` of its summand and sends
the quarter `c / 2` of the other row block to the device beside it along `y`, which keeps exactly that quarter. Here the
sets of elements under the pieces are stated by their rows, with the facts that the pieces of a quarter are disjoint and
fill it, and the contents of the buffers during a run are named: the rows sent, the rows kept, the normalised rows and the
result.
-/
module

public import proofs.«01_k».proof.Proof.KernelIdealPieces
public import Idealize.ShloMosaic.Lib.ValueIdxCore
public import Idealize.ShloMosaic.Lib.Ring

@[expose] public section

noncomputable section

namespace Cert.KernelIdealProof

open Cert.KernelIdeal Cert.KernelIdeal.Gen

open Idealize.ShloMosaic Idealize.ShloMosaic.ValueIdx
open Idealize.ShloMosaic.TcCoe
open Idealize.SL Idealize.SL.Sem

variable {F : FTy → Type} [FloatOps F]

/-! ## The neighbours -/

/-- The device beside `c` along `y`. -/
def yN (c : Dev nD) : Dev nD := ⟨(2 * (c.val / 2) + 1) - c.val % 2, by revert c; decide⟩
/-- The device beside `c` along `x`. -/
def xN (c : Dev nD) : Dev nD := ⟨(c.val % 2 + 2) - 2 * (c.val / 2), by revert c; decide⟩

theorem yN_yN (c : Dev nD) : yN (yN c) = c := by revert c; decide
theorem xN_xN (c : Dev nD) : xN (xN c) = c := by revert c; decide
theorem yW_eq (c : Dev nD) : yW c = yN c := Fin.ext (k0_dev1_eq c)
theorem xW_eq (c : Dev nD) : xW c = xN c := Fin.ext (k0_dev2_eq c)
theorem xN_mod (c : Dev nD) : (xN c).val % 2 = c.val % 2 := by revert c; decide
theorem xN_div (c : Dev nD) : (xN c).val / 2 = 1 - c.val / 2 := by revert c; decide
theorem yN_mod (c : Dev nD) : (yN c).val % 2 = 1 - c.val % 2 := by revert c; decide
theorem yN_div (c : Dev nD) : (yN c).val / 2 = c.val / 2 := by revert c; decide
theorem dev_div (c : Dev nD) : c.val / 2 < 2 := by revert c; decide
theorem dev_mod (c : Dev nD) : c.val % 2 < 2 := Nat.mod_lt _ (by decide)

/-- The two exchanges as permutations of the devices. -/
def ySwap : Dev nD ≃ Dev nD := ⟨yN, yN, yN_yN, yN_yN⟩
def xSwap : Dev nD ≃ Dev nD := ⟨xN, xN, xN_xN, xN_xN⟩

/-! ## Rows under the pieces -/

theorem mem_piece (k : Fin 32) (i : S1024x2048.Idx) : i ∈ (rK k).set ↔ 32 * k.val ≤ (i 0).val ∧ (i 0).val < 32 * k.val + 32 := by
  rw [Rect.mem_set_unit, Fin.forall_fin_two]
  have h1 : (i 1).val < 2048 := (i 1).isLt
  show ((32 * k.val ≤ (i 0).val ∧ (i 0).val < 32 * k.val + 32) ∧ (0 ≤ (i 1).val ∧ (i 1).val < 0 + 2048)) ↔ _
  omega

theorem piece_disjoint (k k' : Fin 32) (h : k ≠ k') : Disjoint (rK k).set (rK k').set := by
  rw [Finset.disjoint_left]; intro i hi hi'
  rw [mem_piece] at hi hi'
  exact h (Fin.ext (by omega))

theorem piece_cover : Finset.univ.biUnion (fun k => (rK k).set) = Finset.univ := by
  ext i
  have h0 : (i 0).val < 1024 := (i 0).isLt
  simp only [Finset.mem_biUnion, Finset.mem_univ, true_and, iff_true]
  exact ⟨⟨(i 0).val / 32, by omega⟩, (mem_piece _ _).mpr (by dsimp only; omega)⟩

theorem mem_out (c : Dev nD) (k : Fin 32) (i : S2048x2048.Idx) :
    i ∈ (outK c k).view.set ↔ 1024 * (c.val / 2) + 32 * k.val ≤ (i 0).val ∧ (i 0).val < 1024 * (c.val / 2) + 32 * k.val + 32 := by
  rw [View.set_slice_whole, Rect.mem_set_unit]
  have h1 : (i 1).val < 2048 := (i 1).isLt
  rw [k0_off3_eq]
  constructor
  · intro h; exact h 0
  · intro h a
    fin_cases a
    · exact h
    · exact ⟨Nat.zero_le _, by show (i 1).val < 0 + 2048; omega⟩

theorem out_disjoint (c : Dev nD) (k k' : Fin 32) (h : k ≠ k') : Disjoint (outK c k).view.set (outK c k').view.set := by
  rw [Finset.disjoint_left]; intro i hi hi'
  have h1 := (mem_out c k i).mp hi
  have h2 := (mem_out c k' i).mp hi'
  exact h (Fin.ext (by omega))

/-- The elements of the result that device `c` computes. -/
def quarter (c : Dev nD) : Finset S2048x2048.Idx := Finset.univ.biUnion fun k => (outK c k).view.set

theorem mem_quarter (c : Dev nD) (i : S2048x2048.Idx) : i ∈ quarter c ↔ (i 0).val / 1024 = c.val / 2 := by
  unfold quarter
  rw [Finset.mem_biUnion]
  constructor
  · rintro ⟨k, -, hk⟩
    have := (mem_out c k i).mp hk
    have := k.isLt
    omega
  · intro h
    refine ⟨⟨(i 0).val % 1024 / 32, by omega⟩, Finset.mem_univ _, (mem_out c _ i).mpr ?_⟩
    dsimp only; omega

theorem quarter_other (c : Dev nD) : Finset.univ \ quarter c = quarter (xN c) := by
  ext i
  rw [Finset.mem_sdiff, mem_quarter, mem_quarter, xN_div]
  have h0 : (i 0).val < 2048 := (i 0).isLt
  have := dev_div c
  simp only [Finset.mem_univ, true_and]
  omega

theorem mem_src (c : Dev nD) (k : Fin 32) (i : S1x4096x2048.Idx) :
    i ∈ (srcK c k).view.set ↔ 1024 * (c.val / 2) + 32 * k.val + 2048 - 2048 * (c.val % 2) ≤ (i 1).val
      ∧ (i 1).val < 1024 * (c.val / 2) + 32 * k.val + 2048 - 2048 * (c.val % 2) + 32 := by
  have e : (srcK c k).view.set = (Rect.unit (s := S1x4096x2048) (k0_off1 c (wK k)) S1x32x2048.size (k0_off1_inb c k)).set := by
    show (View.reshape (View.slice (View.whole main_arg0) _) _ _).set = _
    rw [View.set_reshape, View.set_slice_whole]
  rw [e, Rect.mem_set_unit]
  have h2 : (i 2).val < 2048 := (i 2).isLt
  have h0 : (i 0).val < 1 := (i 0).isLt
  rw [k0_off1_eq]
  constructor
  · intro h; exact h 1
  · intro h a
    fin_cases a
    · exact ⟨Nat.zero_le _, by show (i 0).val < 0 + 1; omega⟩
    · exact h
    · exact ⟨Nat.zero_le _, by show (i 2).val < 0 + 2048; omega⟩

theorem src_disjoint (c : Dev nD) (k k' : Fin 32) (h : k ≠ k') : Disjoint (srcK c k).view.set (srcK c k').view.set := by
  rw [Finset.disjoint_left]; intro i hi hi'
  have h1 := (mem_src c k i).mp hi
  have h2 := (mem_src c k' i).mp hi'
  have := dev_mod c
  exact h (Fin.ext (by omega))

theorem mem_own (c : Dev nD) (i : S1x4096x2048.Idx) :
    i ∈ (ownM c).view.set ↔ 2048 * (c.val % 2) + 1024 * (c.val / 2) ≤ (i 1).val ∧ (i 1).val < 2048 * (c.val % 2) + 1024 * (c.val / 2) + 1024 := by
  have e : (ownM c).view.set = (Rect.unit (s := S1x4096x2048) (k0_off2 c) S1x1024x2048.size (k0_off2_inb c)).set := by
    show (View.reshape (View.slice (View.whole main_arg0) _) _ _).set = _
    rw [View.set_reshape, View.set_slice_whole]
  rw [e, Rect.mem_set_unit]
  have h2 : (i 2).val < 2048 := (i 2).isLt
  have h0 : (i 0).val < 1 := (i 0).isLt
  rw [k0_off2_eq]
  constructor
  · intro h; exact h 1
  · intro h a
    fin_cases a
    · exact ⟨Nat.zero_le _, by show (i 0).val < 0 + 1; omega⟩
    · exact h
    · exact ⟨Nat.zero_le _, by show (i 2).val < 0 + 2048; omega⟩

/-- The elements of the summand that device `c` sends. -/
def sent (c : Dev nD) : Finset S1x4096x2048.Idx := Finset.univ.biUnion fun k => (srcK c k).view.set

theorem own_off_sent (c : Dev nD) : (ownM c).view.set ⊆ Finset.univ \ sent c := by
  intro i hi
  have h1 := (mem_own c i).mp hi
  rw [Finset.mem_sdiff]
  refine ⟨Finset.mem_univ _, fun h => ?_⟩
  unfold sent at h
  rw [Finset.mem_biUnion] at h
  obtain ⟨k, -, hk⟩ := h
  have h2 := (mem_src c k i).mp hk
  have := dev_mod c; have := dev_div c; have := k.isLt
  omega

/-! ## Contents -/

/-- Where row `i` of the quarter that device `c` keeps lies in a summand. -/
def keepAt (c : Dev nD) (i : S1024x2048.Idx) : S1x4096x2048.Idx :=
  ix3 ⟨0, Nat.one_pos⟩ ⟨2048 * (c.val % 2) + 1024 * (c.val / 2) + (i 0).val, by
    have h : (i 0).val < 1024 := (i 0).isLt
    have := dev_mod c; have := dev_div c; omega⟩ (i 1)

variable (m : (ℓ : Loc nD τ sig) → Buf (Elt F) ℓ)

/-- Device `d`'s summand. -/
def summand (d : Dev nD) : S1x4096x2048.Idx → Elt F .f32 := m ((d : Thread nD τ).loc main_arg0)

/-- Device `d`'s rows of the quarter that device `c` keeps. -/
def rowsOf (c d : Dev nD) : S1024x2048.Idx → Elt F .f32 := fun i => summand m d (keepAt c i)

/-- Piece `k` of a quarter. -/
abbrev pieceOf (X : S1024x2048.Idx → Elt F .f32) (k : Fin 32) : S32x2048.Idx → Elt F .f32 := fun j => X ((rK k).emb j)

/-- The scale vector on device `c`. -/
def scale (c : Dev nD) : S2048.Idx → Elt F .f32 := (win0_0.blk (0 : Fin 1)).view.read (Elt F) (m ((c : Thread nD τ).loc main_arg1))

/-- The normalised piece `k` of the quarter that device `c` keeps. -/
def normedOf (c : Dev nD) (k : Fin 32) : S32x2048.Idx → Elt F .f32 :=
  normed (pieceOf (rowsOf m c c) k) (pieceOf (rowsOf m c (yN c)) k) (scale m c)

/-- The normalised quarter of device `c`. -/
def quarterOf (c : Dev nD) : S1024x2048.Idx → Elt F .f32 := fun i =>
  normedOf m c ⟨(i 0).val / 32, by have h : (i 0).val < 1024 := (i 0).isLt; omega⟩ (ix2 ⟨(i 0).val % 32, Nat.mod_lt _ (by decide)⟩ (i 1))

/-- The device that computes the rows `r` of device `c`'s result. -/
def maker (c : Dev nD) (r : Fin 2048) : Dev nD := ⟨2 * (r.val / 1024) + c.val % 2, by have := r.isLt; have := dev_mod c; show _ < 4; omega⟩

/-- The result on device `c`. -/
def resultOf (c : Dev nD) : S2048x2048.Idx → Elt F .f32 := fun i =>
  quarterOf m (maker c (i 0)) (ix2 ⟨(i 0).val % 1024, Nat.mod_lt _ (by decide)⟩ (i 1))

theorem piece_quarterOf (c : Dev nD) (k : Fin 32) : pieceOf (quarterOf m c) k = normedOf m c k := by
  funext j
  have hj : (j 0).val < 32 := (j 0).isLt
  have e0 : ((rK k).emb j 0).val = 32 * k.val + 1 * (j 0).val := Rect.emb_apply ..
  have e1 : ((rK k).emb j 1).val = 0 + 1 * (j 1).val := Rect.emb_apply ..
  refine congrArg₂ (normedOf m c) (Fin.ext (by dsimp only; omega)) (funext fun a => Fin.ext ?_)
  match a with
  | ⟨0, _⟩ => show ((rK k).emb j 0).val % 32 = (j 0).val; omega
  | ⟨1, _⟩ => show ((rK k).emb j 1).val = (j 1).val; omega

/-! ## What a transfer leaves -/

omit [FloatOps F] in
/-- A view written whole agrees, under the view, with any contents that read there as what was written. -/
theorem write_agrees {sp : Space} {s : Shape} {e : EltTy} (v : View sig .tc sp s e) (fd g : v.ty.Contents (Elt F)) (w : s.Idx → Elt F e)
    (h : ∀ j, v.read (Elt F) g j = w j) : ∀ i ∈ v.set, v.write (Elt F) fd w Finset.univ i = g i := by
  intro i hi
  obtain ⟨j, -, rfl⟩ := Finset.mem_map.mp hi
  rw [View.write_emb_of_mem _ _ (Finset.mem_univ _), ← h, View.read_apply, cast_cast, cast_eq]

theorem read_src (c : Dev nD) (k : Fin 32) (j : S32x2048.Idx) :
    (srcK c k).view.read (Elt F) (m ((c : Thread nD τ).loc main_arg0)) j = pieceOf (rowsOf m (yN c) c) k j := by
  show m ((c : Thread nD τ).loc main_arg0) ((Rect.unit (s := S1x4096x2048) (k0_off1 c (wK k)) S1x32x2048.size (k0_off1_inb c k)).emb
    (Shape.reshapeEquiv squeezes_S1x32x2048_S32x2048.numel_eq j)) = m ((c : Thread nD τ).loc main_arg0) (keepAt (yN c) ((rK k).emb j))
  rw [Shape.reshapeEquiv_cons_one]
  refine congrArg _ (funext fun a => Fin.ext ?_)
  have h0 := dev_div c; have h1 := dev_mod c
  match a with
  | ⟨0, _⟩ =>
    show k0_off1 c (wK k) 0 + 1 * 0 = 0
    rw [k0_off1_eq]; rfl
  | ⟨1, _⟩ =>
    show k0_off1 c (wK k) 1 + 1 * (j 0).val = 2048 * ((yN c).val % 2) + 1024 * ((yN c).val / 2) + (32 * k.val + 1 * (j 0).val)
    rw [k0_off1_eq, yN_mod, yN_div]
    show 1024 * (c.val / 2) + 32 * k.val + 2048 - 2048 * (c.val % 2) + 1 * (j 0).val = _
    omega
  | ⟨2, _⟩ =>
    show k0_off1 c (wK k) 2 + 1 * (j 1).val = 0 + 1 * (j 1).val
    rw [k0_off1_eq]; rfl

theorem read_own (c : Dev nD) (j : S1024x2048.Idx) :
    (ownM c).view.read (Elt F) (m ((c : Thread nD τ).loc main_arg0)) j = rowsOf m c c j := by
  show m ((c : Thread nD τ).loc main_arg0) ((Rect.unit (s := S1x4096x2048) (k0_off2 c) S1x1024x2048.size (k0_off2_inb c)).emb
    (Shape.reshapeEquiv squeezes_S1x1024x2048_S1024x2048.numel_eq j)) = m ((c : Thread nD τ).loc main_arg0) (keepAt c j)
  rw [Shape.reshapeEquiv_cons_one]
  refine congrArg _ (funext fun a => Fin.ext ?_)
  match a with
  | ⟨0, _⟩ =>
    show k0_off2 c 0 + 1 * 0 = 0
    rw [k0_off2_eq]; rfl
  | ⟨1, _⟩ =>
    show k0_off2 c 1 + 1 * (j 0).val = 2048 * (c.val % 2) + 1024 * (c.val / 2) + (j 0).val
    rw [k0_off2_eq, one_mul]; rfl
  | ⟨2, _⟩ =>
    show k0_off2 c 2 + 1 * (j 1).val = (j 1).val
    rw [k0_off2_eq, one_mul]; exact Nat.zero_add _

theorem read_out (c e : Dev nD) (he : e.val % 2 = c.val % 2) (k : Fin 32) (j : S32x2048.Idx) :
    (outK c k).view.read (Elt F) (resultOf m e) j = pieceOf (quarterOf m c) k j := by
  show resultOf m e ((Rect.unit (s := S2048x2048) (k0_off3 c (wK k)) S32x2048.size (k0_off3_inb c k)).emb j) = quarterOf m c ((rK k).emb j)
  generalize hi : (Rect.unit (s := S2048x2048) (k0_off3 c (wK k)) S32x2048.size (k0_off3_inb c k)).emb j = i
  have e0 : (i 0).val = 1024 * (c.val / 2) + 32 * k.val + (j 0).val := by
    rw [← hi]; show k0_off3 c (wK k) 0 + 1 * (j 0).val = _
    rw [k0_off3_eq, one_mul]; rfl
  have e1 : (i 1).val = (j 1).val := by
    rw [← hi]; show k0_off3 c (wK k) 1 + 1 * (j 1).val = _
    rw [k0_off3_eq, one_mul]; exact Nat.zero_add _
  have hj : (j 0).val < 32 := (j 0).isLt
  have hk := k.isLt
  unfold resultOf
  refine congrArg₂ (quarterOf m) (Fin.ext ?_) (funext fun a => Fin.ext ?_)
  · show 2 * ((i 0).val / 1024) + e.val % 2 = c.val
    omega
  · match a with
    | ⟨0, _⟩ => show (i 0).val % 1024 = 32 * k.val + 1 * (j 0).val; omega
    | ⟨1, _⟩ => show (i 1).val = 0 + 1 * (j 1).val; omega

end Cert.KernelIdealProof

end
-- ==== Proof.KernelIdealProtocol.lean ====
/-
# The protocol between the devices

Every device has one barrier cell and, for each of its transfers, the cell that the transfer's end is counted on. A cell
is used once. What a cell's credit hands its owner is said here:

* the barrier: the neighbour along `y` hands its landing buffer, the neighbour along `x` hands the rows of its result that
  the owner is to write;
* the cells of the owner's own transfers: the buffers that the transfer read and wrote;
* the two receive cells: the rows that have come, with their contents.

The cells of a device's own transfers are waited for freely; a device that waits for its barrier owes only the receive
cells, one that waits for rows along `y` owes only rows along `x`, and one that waits for those owes nothing. That order is
the levels below.
-/
module

public import proofs.«01_k».proof.Proof.KernelIdealRows
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The semaphore arrays. -/
abbrev arr : Fin 6 → DmaSems sig S32
  | 0 => cc0_scratch3 | 1 => cc0_scratch4 | 2 => cc0_scratch5 | 3 => cc0_scratch6 | 4 => cc0_scratch8 | 5 => cc0_scratch9

/-- The cells of a kernel's own semaphores: the one for the rows kept, and six for each piece. -/
abbrev Own : Type := Unit ⊕ (Fin 6 × Fin 32)
/-- Every cell of a device: the barrier's and its own. -/
abbrev Cl : Type := Unit ⊕ Own

abbrev cBar : Cl := .inl ()
abbrev cKeep : Cl := .inr (.inl ())
abbrev cYSend (k : Fin 32) : Cl := .inr (.inr (0, k))
abbrev cYRecv (k : Fin 32) : Cl := .inr (.inr (1, k))
abbrev cXSend (k : Fin 32) : Cl := .inr (.inr (2, k))
abbrev cXRecv (k : Fin 32) : Cl := .inr (.inr (3, k))
abbrev cStage (k : Fin 32) : Cl := .inr (.inr (4, k))
abbrev cOut (k : Fin 32) : Cl := .inr (.inr (5, k))

abbrev osem : Own → SemLoc sig
  | .inl _ => .dma cc0_scratch7.sem
  | .inr (a, k) => .dma (semK (arr a) k)

abbrev csem : Cl → SemLoc sig
  | .inl _ => .reg barS
  | .inr j => osem j

/-- Where each array of semaphores starts. -/
def base : Fin 6 → ℕ := ![1, 33, 65, 97, 130, 162]

theorem semK_val (a : Fin 6) (k : Fin 32) : (semK (arr a) k).val = base a + k.val := by revert a k; decide

theorem osem_inj : Function.Injective osem := by
  rintro (⟨⟩ | ⟨a, k⟩) (⟨⟩ | ⟨a', k'⟩) h
  · rfl
  · have h' : (cc0_scratch7.sem : DmaSem sig).val = (semK (arr a') k').val := by injection h with h; exact congrArg _ h
    rw [semK_val] at h'
    have h7 : (cc0_scratch7.sem : DmaSem sig).val = 129 := by decide
    rw [h7] at h'
    have := k'.isLt
    fin_cases a' <;> simp [base] at h' <;> omega
  · have h' : (semK (arr a) k).val = (cc0_scratch7.sem : DmaSem sig).val := by injection h with h; exact congrArg _ h
    rw [semK_val] at h'
    have h7 : (cc0_scratch7.sem : DmaSem sig).val = 129 := by decide
    rw [h7] at h'
    have := k.isLt
    fin_cases a <;> simp [base] at h' <;> omega
  · have h' : (semK (arr a) k).val = (semK (arr a') k').val := by injection h with h; exact congrArg _ h
    rw [semK_val, semK_val] at h'
    have := k.isLt; have := k'.isLt
    have hk : a = a' ∧ k.val = k'.val := by
      fin_cases a <;> fin_cases a' <;> simp [base] at h' ⊢ <;> omega
    obtain ⟨rfl, hk⟩ := hk
    rw [Fin.ext hk]

theorem csem_inj : Function.Injective csem := by
  rintro (⟨⟩ | j) (⟨⟩ | j') h
  · rfl
  · exact absurd h (by rcases j' with ⟨⟩ | ⟨a, k⟩ <;> exact fun h => by cases h)
  · exact absurd h (by rcases j with ⟨⟩ | ⟨a, k⟩ <;> exact fun h => by cases h)
  · rw [osem_inj (show osem j = osem j' from h)]

/-- Which cell a semaphore is, if any. -/
def cellOfSem (s : SemLoc sig) : Option Cl := preimage? ⟨csem, csem_inj⟩ s
theorem cellOfSem_csem (x : Cl) : cellOfSem (csem x) = some x := preimage?_emb ⟨csem, csem_inj⟩ x
theorem cellOfSem_stage (q : DmaSem sig) (hq : q.val = 0) : cellOfSem (.dma q) = none := by
  refine preimage?_eq_none ?_
  rintro (⟨⟩ | ⟨⟩ | ⟨a, k⟩) h
  · cases h
  · have h' : (cc0_scratch7.sem : DmaSem sig).val = q.val := by injection h with h; exact congrArg _ h
    have h7 : (cc0_scratch7.sem : DmaSem sig).val = 129 := by decide
    omega
  · have h' : (semK (arr a) k).val = q.val := by injection h with h; exact congrArg _ h
    rw [semK_val, hq] at h'
    fin_cases a <;> simp [base] at h'

abbrev kcell (cx : Dev nD × Cl) : GSem nD τ sig := ((cx.1 : Thread nD τ), csem cx.2)

theorem kcell_inj : Function.Injective kcell := by
  rintro ⟨c, x⟩ ⟨c', x'⟩ h
  have h1 : c = c' := congrArg (fun g : GSem nD τ sig => g.1.1) h
  have h2 : x = x' := csem_inj (congrArg Prod.snd h)
  rw [h1, h2]

/-- What a transfer of a piece counts, and what the one of the rows kept counts. -/
def N : ℕ := (pc sM 0).view.dmaCredit
def NK : ℕ := (rM : Memref sig .tc .vmem S1024x2048 .f32).view.dmaCredit
theorem N_pos : 0 < N := View.dmaCredit_pos _ (by decide)
theorem NK_pos : 0 < NK := View.dmaCredit_pos _ (by decide)

/-! ## What is held of a buffer -/

variable (m : (ℓ : Loc nD τ sig) → Buf (Elt F) ℓ)

/-- Piece `k` of device `c`'s landing buffer, at contents `f`; -/
def cPts (c : Dev nD) (k : Fin 32) (f : S1024x2048.Idx → Elt F .f32) : sProp 𝕄 :=
  (pc cM k).view.loc (c : Thread nD τ) ↦[(pc cM k).view.set]{fullShare} f
/-- of its stage; -/
def sPts (c : Dev nD) (k : Fin 32) (f : S1024x2048.Idx → Elt F .f32) : sProp 𝕄 :=
  (pc sM k).view.loc (c : Thread nD τ) ↦[(pc sM k).view.set]{fullShare} f
/-- of its rows, at the share `q`. -/
def rPts (c : Dev nD) (k : Fin 32) (q : PosShare TreeShare) (f : S1024x2048.Idx → Elt F .f32) : sProp 𝕄 :=
  (pc rM k).view.loc (c : Thread nD τ) ↦[(pc rM k).view.set]{q} f
/-- The rows that device `c` makes of device `e`'s result, piece `k`. -/
def oPts (e c : Dev nD) (k : Fin 32) (f : S2048x2048.Idx → Elt F .f32) : sProp 𝕄 :=
  (outK c k).view.loc (e : Thread nD τ) ↦[(outK c k).view.set]{fullShare} f
/-- Piece `k` of the rows that device `c` sends. -/
def srcPts (c : Dev nD) (k : Fin 32) : sProp 𝕄 :=
  (srcK c k).view.loc (c : Thread nD τ) ↦[(srcK c k).view.set]{fullShare} m ((c : Thread nD τ).loc main_arg0)
/-- The rows that device `c` keeps. -/
def ownPts (c : Dev nD) : sProp 𝕄 :=
  (ownM c).view.loc (c : Thread nD τ) ↦[(ownM c).view.set]{fullShare} m ((c : Thread nD τ).loc main_arg0)
/-- The buffer that they are summed in. -/
def rAll (c : Dev nD) (f : S1024x2048.Idx → Elt F .f32) : sProp 𝕄 :=
  (rM : Memref sig .tc .vmem S1024x2048 .f32).view.loc (c : Thread nD τ) ↦[(rM : Memref sig .tc .vmem S1024x2048 .f32).view.set]{fullShare} f

omit [FloatOps F] in
instance cPts_storable (c k) (f : S1024x2048.Idx → Elt F .f32) : BI.Storable (upEmb : UEmb _ 𝕄) (cPts c k f) := by unfold cPts; infer_instance
omit [FloatOps F] in
instance sPts_storable (c k) (f : S1024x2048.Idx → Elt F .f32) : BI.Storable (upEmb : UEmb _ 𝕄) (sPts c k f) := by unfold sPts; infer_instance
omit [FloatOps F] in
instance rPts_storable (c k q) (f : S1024x2048.Idx → Elt F .f32) : BI.Storable (upEmb : UEmb _ 𝕄) (rPts c k q f) := by unfold rPts; infer_instance
omit [FloatOps F] in
instance oPts_storable (e c k) (f : S2048x2048.Idx → Elt F .f32) : BI.Storable (upEmb : UEmb _ 𝕄) (oPts e c k f) := by unfold oPts; infer_instance
omit [FloatOps F] in
instance srcPts_storable (c k) : BI.Storable (upEmb : UEmb _ 𝕄) (srcPts m c k) := by unfold srcPts; infer_instance
omit [FloatOps F] in
instance ownPts_storable (c) : BI.Storable (upEmb : UEmb _ 𝕄) (ownPts m c) := by unfold ownPts; infer_instance
omit [FloatOps F] in
instance rAll_storable (c) (f : S1024x2048.Idx → Elt F .f32) : BI.Storable (upEmb : UEmb _ 𝕄) (rAll c f) := by unfold rAll; infer_instance

/-! ## The schedule -/

/-- What the neighbour along `y` hands device `c` at the barrier: its landing buffer. -/
def barY (c : Dev nD) : sProp 𝕄 := bigSep Finset.univ fun k : Fin 32 => iprop(∃ f, cPts (F := F) (yN c) k f)
/-- What the neighbour along `x` hands device `c` at the barrier: the rows of its result that `c` makes. -/
def barX (c : Dev nD) : sProp 𝕄 := bigSep Finset.univ fun k : Fin 32 => iprop(∃ f, oPts (F := F) (xN c) c k f)

/-- What the six cells of piece `k` hand. -/
def payOf (c : Dev nD) (k : Fin 32) : Fin 6 → sProp 𝕄
  | 0 => sPts c k (rowsOf m (yN c) c)
  | 1 => cPts c k (rowsOf m c (yN c))
  | 2 => rPts c k fullShare.left (quarterOf m c)
  | 3 => oPts c (xN c) k (resultOf m c)
  | 4 => iprop(sPts c k (rowsOf m (yN c) c) ∗ srcPts m c k)
  | 5 => iprop(oPts c c k (resultOf m c) ∗ rPts c k fullShare.right (quarterOf m c))

/-- What the duty `d` of the cell `x` hands device `c`. -/
def pay (c : Dev nD) : Cl → Bool → sProp 𝕄
  | .inl _, false => barY c
  | .inl _, true => barX c
  | .inr (.inl _), _ => iprop(rAll c (rowsOf m c c) ∗ ownPts m c)
  | .inr (.inr (a, k)), _ => payOf m c k a

def duts : Cl → Finset Bool
  | .inl _ => {false, true}
  | .inr _ => {false}

def amt : Cl → ℕ
  | .inl _ => 1
  | .inr (.inl _) => NK
  | .inr (.inr _) => N

theorem amt_pos (x : Cl) : 0 < amt x := by
  rcases x with ⟨⟩ | ⟨⟩ | ⟨a, k⟩
  · exact Nat.one_pos
  · exact NK_pos
  · exact N_pos

instance payOf_storable (c k a) : BI.Storable (upEmb : UEmb _ 𝕄) (payOf (F := F) m c k a) := by
  fin_cases a <;> simp only [payOf] <;> infer_instance
instance pay_storable (c x d) : BI.Storable (upEmb : UEmb _ 𝕄) (pay (F := F) m c x d) := by
  rcases x with ⟨⟩ | ⟨⟩ | ⟨a, k⟩
  · cases d
    · simp only [pay, barY]; infer_instance
    · simp only [pay, barX]; infer_instance
  · simp only [pay]; infer_instance
  · simp only [pay]; infer_instance

def sched : Rounds.Schedule (GSem nD τ sig) Bool 𝕄 where
  duties g r := if r = 0 ∧ g.1.2 = .tc then (match cellOfSem g.2 with | some x => duts x | none => ∅) else ∅
  unitless _ := False
  amount g _ _ := match cellOfSem g.2 with | some x => amt x | none => 1
  payload g _ d := match cellOfSem g.2 with | some x => pay m g.1.1 x d | none => iprop(emp)
  amount_pos g _ _ _ := by split; · exact amt_pos _
                           · exact Nat.one_pos

instance sched_storable (g : GSem nD τ sig) (r : ℕ) (d : Bool) : BI.Storable (upEmb : UEmb _ 𝕄) ((sched (F := F) m).payload g r d) := by
  show BI.Storable upEmb (match cellOfSem g.2 with | some x => pay m g.1.1 x d | none => iprop(emp))
  split <;> infer_instance

theorem duties_at (c : Dev nD) (x : Cl) : (sched m).duties (kcell (c, x)) 0 = duts x := by
  dsimp only [sched]; rw [if_pos ⟨rfl, rfl⟩, cellOfSem_csem]
theorem duties_later (g : GSem nD τ sig) : ∀ r, 1 ≤ r → (sched m).duties g r = ∅ :=
  fun r hr => by dsimp only [sched]; exact if_neg fun h => by omega
theorem amount_at (c : Dev nD) (x : Cl) (d : Bool) : (sched m).amount (kcell (c, x)) 0 d = amt x := by
  dsimp only [sched]; rw [cellOfSem_csem]
theorem payload_at (c : Dev nD) (x : Cl) (d : Bool) : (sched m).payload (kcell (c, x)) 0 d = pay m c x d := by
  dsimp only [sched]; rw [cellOfSem_csem]
theorem mem_duties_own (c : Dev nD) (j : Own) : false ∈ (sched m).duties (kcell (c, .inr j)) 0 := by
  rw [duties_at]; exact Finset.mem_singleton_self _
theorem mem_duties_bar (c : Dev nD) (d : Bool) : d ∈ (sched m).duties (kcell (c, cBar)) 0 := by
  rw [duties_at]; cases d <;> decide
theorem expect_own (c : Dev nD) (j : Own) : (sched m).expect (kcell (c, .inr j)) 0 = amt (.inr j) := by
  unfold Schedule.expect Schedule.amountOf; rw [duties_at]
  show ∑ d ∈ {false}, _ = _
  rw [Finset.sum_singleton, amount_at]
theorem expect_bar (c : Dev nD) : (sched m).expect (kcell (c, cBar)) 0 = 2 := by
  unfold Schedule.expect Schedule.amountOf; rw [duties_at]
  show ∑ d ∈ {false, true}, _ = _
  rw [Finset.sum_pair (by decide), amount_at, amount_at]; rfl
theorem rest_own (c : Dev nD) (j : Own) :
    bigSep ((sched m).duties (kcell (c, .inr j)) 0 \ ∅) (fun d => (sched m).payload (kcell (c, .inr j)) 0 d) = pay m c (.inr j) false := by
  rw [Finset.sdiff_empty, duties_at, show duts (.inr j) = {false} from rfl, bigSep_singleton, payload_at]
theorem rest_bar (c : Dev nD) :
    bigSep ((sched m).duties (kcell (c, cBar)) 0 \ ∅) (fun d => (sched m).payload (kcell (c, cBar)) 0 d) = iprop(barY c ∗ barX c) := by
  rw [Finset.sdiff_empty, duties_at, show duts cBar = {false, true} from rfl,
    bigSep_insert (by decide), bigSep_singleton, payload_at, payload_at]; rfl

/-! ## What is owed, and the levels -/

/-- The rows along `y` that device `c` still owes, for the pieces `ks`; -/
def owY (c : Dev nD) (ks : List (Fin 32)) : CellTallies nD τ sig Unit := (ks.map fun k => tallyAt (kcell (yN c, cYRecv k)) () N).sum
/-- and those along `x`. -/
def owX (c : Dev nD) (ks : List (Fin 32)) : CellTallies nD τ sig Unit := (ks.map fun k => tallyAt (kcell (xN c, cXRecv k)) () N).sum

theorem owY_cons (c k ks) : owY c (k :: ks) = owY c ks + tallyAt (kcell (yN c, cYRecv k)) () N := by
  unfold owY; rw [List.map_cons, List.sum_cons, add_comm]
theorem owX_cons (c k ks) : owX c (k :: ks) = owX c ks + tallyAt (kcell (xN c, cXRecv k)) () N := by
  unfold owX; rw [List.map_cons, List.sum_cons, add_comm]

/-- What device `c` owes at launch. -/
def O₀ (c : Dev nD) : CellTallies nD τ sig Unit :=
  owX c pieces + owY c pieces + tallyAt (kcell (xN c, cBar)) () 1 + tallyAt (kcell (yN c, cBar)) () 1

def levelOf : Cl → ℕ
  | .inl _ => 1
  | .inr (.inr (1, _)) => 2
  | .inr (.inr (3, _)) => 3
  | _ => 0

def L (g : GSem nD τ sig) : Finset Unit := if g.1.2 = .tc then {()} else ∅
def lv (g : GSem nD τ sig) (_ : Unit) : ℕ := match cellOfSem g.2 with | some x => levelOf x | none => 0
theorem L_of_ne (g : GSem nD τ sig) (h : g.1.2 ≠ .tc) : L g = ∅ := if_neg h
theorem L_tc (g : GSem nD τ sig) (h : g.1.2 = .tc) (u : Unit) : u ∈ L g := by unfold L; rw [if_pos h]; exact Finset.mem_singleton_self _
theorem lv_at (c : Dev nD) (x : Cl) (u : Unit) : lv (kcell (c, x)) u = levelOf x := by
  unfold lv; rw [cellOfSem_csem]

theorem tally_pos {g₀ g : GSem nD τ sig} {n : ℕ} {u : Unit} (h : 0 < (tallyAt g₀ () n : CellTallies nD τ sig Unit) g u) : g = g₀ := by
  rw [tallyAt_apply] at h
  by_contra hn
  rw [if_neg (fun h' => hn h'.1)] at h
  exact Nat.lt_irrefl 0 h

theorem add_pos {A B : CellTallies nD τ sig Unit} {g : GSem nD τ sig} {u : Unit} (h : 0 < (A + B) g u) : 0 < A g u ∨ 0 < B g u := by
  rw [Pi.add_apply, Finsupp.add_apply] at h; omega

theorem owY_pos {c : Dev nD} {ks : List (Fin 32)} {g : GSem nD τ sig} {u : Unit} (h : 0 < owY c ks g u) : ∃ k, g = kcell (yN c, cYRecv k) := by
  induction ks with
  | nil => exact absurd h (Nat.lt_irrefl 0)
  | cons k ks ih =>
    rw [owY_cons] at h
    rcases add_pos h with h | h
    · exact ih h
    · exact ⟨k, tally_pos h⟩
theorem owX_pos {c : Dev nD} {ks : List (Fin 32)} {g : GSem nD τ sig} {u : Unit} (h : 0 < owX c ks g u) : ∃ k, g = kcell (xN c, cXRecv k) := by
  induction ks with
  | nil => exact absurd h (Nat.lt_irrefl 0)
  | cons k ks ih =>
    rw [owX_cons] at h
    rcases add_pos h with h | h
    · exact ih h
    · exact ⟨k, tally_pos h⟩

theorem O₀_pos {c : Dev nD} {g : GSem nD τ sig} {u : Unit} (h : 0 < O₀ c g u) : ∃ e x, g = kcell (e, x) ∧ 0 < levelOf x := by
  unfold O₀ at h
  rcases add_pos h with h | h
  · rcases add_pos h with h | h
    · rcases add_pos h with h | h
      · obtain ⟨k, rfl⟩ := owX_pos h; exact ⟨_, _, rfl, Nat.succ_pos _⟩
      · obtain ⟨k, rfl⟩ := owY_pos h; exact ⟨_, _, rfl, Nat.succ_pos _⟩
    · obtain rfl := tally_pos h; exact ⟨_, _, rfl, by decide⟩
  · obtain rfl := tally_pos h; exact ⟨_, _, rfl, by decide⟩

/-- A device may wait for a cell no higher than `n` while all that it owes is higher than `n`. -/
theorem mayWait (n : ℕ) (c : Dev nD) (sm : SemLoc sig) (hs : lv ((c : Thread nD τ), sm) () ≤ n) (O : CellTallies nD τ sig Unit)
    (hO : ∀ g u, 0 < O g u → ∃ e x, g = kcell (e, x) ∧ n < levelOf x) :
    (levAts L lv : sProp 𝕄) ⊢ MayWait (c : Thread nD τ) sm () O :=
  MayOwe.of_cut (L := L) (lev := lv) n (fun p hp => by rw [Finset.mem_singleton.mp hp]; exact L_tc _ rfl _)
    (fun g u hg => by obtain ⟨e, x, rfl, -⟩ := hO g u hg; exact L_tc _ rfl _)
    (fun p hp => by rw [Finset.mem_singleton.mp hp]; exact hs)
    (fun g u hg => by obtain ⟨e, x, rfl, h⟩ := hO g u hg; rw [lv_at]; exact h)

end Cert.KernelIdealProof

end
-- ==== Proof.KernelIdealBody.lean ====
/-
# The phases of the body, one piece at a time

Each theorem is about one phase at a symbolic device and a symbolic piece: from what the phase takes it gives what the phase
leaves. `wp_each` carries such a fact through a loop over all pieces.
-/
module

public import proofs.«01_k».proof.Proof.KernelIdealProtocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Running `p` on device `c`'s core establishes `Q`. -/
abbrev wpc {α : Type} (c : Dev nD) (p : Code F α) (Q : α → sProp 𝕄) : sProp 𝕄 :=
  wp frame (wpE (defs₀ (F := F)) 𝒱₀ (c : Thread nD τ) none) Set.univ p Q

theorem wp_then {α β : Type} {c : Dev nD} {p : Code F α} {q : α → Code F β} {P : sProp 𝕄} {Φ : α → sProp 𝕄} {Q : β → sProp 𝕄}
    (h : P ⊢ wpc c p Φ) : P ⊢ iprop((∀ a, Φ a -∗ wpc c (q a) Q) -∗ wpc c (p >>= q) Q) := by
  unfold wpc
  rw [wp_bind]
  exact h.trans (wp_wand frame (wpE (defs₀ (F := F)) 𝒱₀ (c : Thread nD τ) none) Set.univ)

omit [FloatOps F] in
theorem bigSep_cons {I : Type} [DecidableEq I] {s : Finset I} {i : I} (hi : i ∉ s) (Φ : I → sProp 𝕄) :
    bigSep (insert i s) Φ = iprop(Φ i ∗ bigSep s Φ) := bigSep_insert hi

omit [FloatOps F] in
theorem bigSep_at {I : Type} [Fintype I] [DecidableEq I] (Φ : I → sProp 𝕄) (i : I) : bigSep Finset.univ Φ ⊢ Φ i := bigSep_elim (Finset.mem_univ i)

/-- A loop over the pieces: what one pass takes and leaves, with what is handed from pass to pass. -/
theorem wp_each (c : Dev nD) (R : sProp 𝕄) [BI.Persistent R] (Pre Post : Fin 32 → sProp 𝕄) (S : List (Fin 32) → sProp 𝕄)
    (f : Fin 32 → Code F PUnit)
    (h : ∀ k ks, iprop(R ∗ Pre k ∗ S (k :: ks)) ⊢ wpc c (f k) (fun _ => iprop(Post k ∗ S ks))) :
    ∀ ks : List (Fin 32), ks.Nodup →
      iprop(R ∗ bigSep ks.toFinset Pre ∗ S ks) ⊢ wpc c (each f ks) (fun _ => iprop(bigSep ks.toFinset Post ∗ S [])) := by
  intro ks
  induction ks with
  | nil =>
    intro _
    show _ ⊢ wpc c (pure PUnit.unit) _
    unfold wpc
    rw [wp_pure]
    iintro ⟨-, H⟩
    imodintro
    iexact H
  | cons k ks ih =>
    intro hnd
    have hk : k ∉ ks.toFinset := fun hm => (List.nodup_cons.mp hnd).1 (List.mem_toFinset.mp hm)
    rw [List.toFinset_cons, bigSep_cons hk, bigSep_cons hk]
    show _ ⊢ wpc c (f k >>= fun _ => each f ks) _
    iintro ⟨#HR, ⟨Hk, Hks⟩, HS⟩
    iapply (wp_then (h k ks)) $$ [Hk HS]
    · isplitr; · iexact HR
      isplitl [Hk] <;> iassumption
    iintro %_ ⟨Hp, HS⟩
    iapply (wp_wand frame (wpE (defs₀ (F := F)) 𝒱₀ (c : Thread nD τ) none) Set.univ) $$ [Hks HS]
    · iapply (ih (List.nodup_cons.mp hnd).2)
      isplitr; · iexact HR
      isplitl [Hks] <;> iassumption
    iintro %_ ⟨Hps, HS⟩
    isplitr [HS]
    · isplitl [Hp] <;> iassumption
    iexact HS

/-- The same over every piece. -/
theorem wp_pieces (c : Dev nD) (R : sProp 𝕄) [BI.Persistent R] (Pre Post : Fin 32 → sProp 𝕄) (S : List (Fin 32) → sProp 𝕄)
    (f : Fin 32 → Code F PUnit)
    (h : ∀ k ks, iprop(R ∗ Pre k ∗ S (k :: ks)) ⊢ wpc c (f k) (fun _ => iprop(Post k ∗ S ks))) :
    iprop(R ∗ bigSep Finset.univ Pre ∗ S pieces) ⊢ wpc c (each f pieces) (fun _ => iprop(bigSep Finset.univ Post ∗ S [])) := by
  have hu : (Finset.univ : Finset (Fin 32)) = pieces.toFinset := by decide
  rw [hu]
  exact wp_each c R Pre Post S f h pieces (List.nodup_finRange 32)

/-! ## What is known throughout -/

variable (K : Dev nD × Cl → ℕ)

/-- Every cell follows the schedule and has started. -/
def records : sProp 𝕄 :=
  iprop((bigSep Finset.univ fun cx : Dev nD × Cl => cellInv ER (sched m) (K cx) (kcell cx))
    ∗ bigSep Finset.univ fun cx : Dev nD × Cl => reached ER (kcell cx) 0)

instance records_persistent : BI.Persistent (records m K) := by unfold records; infer_instance

theorem records_inv (cx : Dev nD × Cl) : records m K ⊢ cellInv ER (sched m) (K cx) (kcell cx) := by
  unfold records; iintro ⟨H, -⟩; iapply (bigSep_at (fun cx => (cellInv ER (sched m) (K cx) (kcell cx) : sProp 𝕄)) cx); iexact H
theorem records_reached (cx : Dev nD × Cl) : records m K ⊢ reached ER (kcell cx) 0 := by
  unfold records; iintro ⟨-, H⟩; iapply (bigSep_at (fun cx : Dev nD × Cl => (reached ER (kcell cx) 0 : sProp 𝕄)) cx); iexact H

/-- What is known throughout: the records, and the levels. -/
def known : sProp 𝕄 := iprop(records m K ∗ levAts L lv)
instance known_persistent : BI.Persistent (known m K) := by unfold known; infer_instance

/-- Device `c` owes `O`. -/
def owed (c : Dev nD) (O : CellTallies nD τ sig Unit) : sProp 𝕄 := iprop(∃ W, owes (c : Thread nD τ) O W)

/-- The position of device `c` at its cell `x`: before the wait, -/
def before (c : Dev nD) (x : Cl) : sProp 𝕄 := atPos ER (kcell (c, x)) 0 ∅ 0
/-- and after it. -/
def past (c : Dev nD) (x : Cl) : sProp 𝕄 := atPos ER (kcell (c, x)) (0 + 1) ∅ 0
/-- The credit on a cell of its own. -/
def due (c : Dev nD) (j : Own) : sProp 𝕄 := cred (tallyAt (kcell (c, .inr j)) () (amt (.inr j)))
/-- The token of the duty `d` of the cell `x` of device `c`. -/
def tok (c : Dev nD) (x : Cl) (d : Bool) : sProp 𝕄 := dutyTok ER (kcell (c, x)) 0 d

/-- Waiting for a cell of one's own, of a level below everything owed. -/
theorem wait_own (c : Dev nD) (j : Own) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (osem j) (amt (.inr j)) Q)
    {α : Type} {k : PUnit → Code F α} {Q : α → sProp 𝕄} (O : CellTallies nD τ sig Unit)
    (hO : ∀ g u, 0 < O g u → ∃ e x, g = kcell (e, x) ∧ levelOf (.inr j) < levelOf x) :
    iprop(known m K ∗ due c j ∗ owed c O ∗ before c (.inr j))
      ⊢ iprop(((owed c O ∗ past c (.inr j) ∗ pay m c (.inr j) false) -∗ wpc c (k ⟨⟩) Q) -∗ wpc c (.op w k) Q) := by
  unfold known owed before past due
  iintro ⟨⟨#HR, #HL⟩, Hc, ⟨%W, HO⟩, Hat⟩
  iintro Hk
  iapply (Rounds.wp_wait_rest_token 𝒱₀ ER (sched m) (c : Thread nD τ) none (κ := K (c, .inr j)) (sm := osem j) hw (Set.mem_univ _) ()
    (O := O) (W := W) (R := 0) (m := 0) (T := ∅) ((Nat.zero_add _).trans (expect_own m c j).symm)) $$ [Hc HO Hat]
  · isplitr; · iapply (records_inv m K (c, .inr j)); iexact HR
    isplitl [Hc]; · iexact Hc
    isplitl [HO]; · iexact HO
    isplitr; · iapply (mayWait (levelOf (.inr j)) c (osem j) (le_of_eq (lv_at c (.inr j) ())) O hO); iexact HL
    iexact Hat
  iintro ⟨HO, Hat, -, Hpay⟩
  iapply Hk
  isplitl [HO]; · iexists _; iexact HO
  isplitl [Hat]; · iexact Hat
  iapply (Entails.of_eq (rest_own m c j)); iexact Hpay

/-- The same of a wait that names the two views of the transfer. -/
theorem wait_dma (c : Dev nD) (j : Own) {sp sp' : Space} {s s' : Shape} {e e' : EltTy} {sem : DmaSem sig} {κ' : Kind}
    (src : Memref sig .tc sp' s' e') (dst : Memref sig κ' sp s e) {hsrc : src.view.WordExact} {hdst : dst.view.WordExact}
    (hs : SemLoc.dma sem = osem j) (hN : dst.view.dmaCredit = amt (.inr j))
    {α : Type} {k : PUnit → Code F α} {Q : α → sProp 𝕄} (O : CellTallies nD τ sig Unit)
    (hO : ∀ g u, 0 < O g u → ∃ e x, g = kcell (e, x) ∧ levelOf (.inr j) < levelOf x) :
    iprop(known m K ∗ due c j ∗ owed c O ∗ before c (.inr j))
      ⊢ iprop(((owed c O ∗ past c (.inr j) ∗ pay m c (.inr j) false) -∗ wpc c (k ⟨⟩) Q)
          -∗ wpc c (.op (.waitDma2 sem src dst hsrc hdst) k) Q) :=
  wait_own m K c j (fun Q => by rw [wpE_waitDma2_eq, hs, hN]) O hO

/-- A transfer within the device: its landing pays the cell `j`. -/
theorem copy_dma (c : Dev nD) (j : Own) {sp sp' : Space} {s : Shape} {e : EltTy} {sem : DmaSem sig}
    (src : Memref sig .tc sp s e) (dst : Memref sig .tc sp' s e) {hsrc : src.view.WordExact} {hdst : dst.view.WordExact}
    {hsem : DmaTarget.Typed (nD := nD) (p := .tc) sp (.dma sem) (.here dst)} (hs : SemLoc.dma sem = osem j) (hN : dst.view.dmaCredit = amt (.inr j))
    (q : PosShare TreeShare) (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ pay m c (.inr j) false)
    {α : Type} {k : PUnit → Code F α} {Q : α → sProp 𝕄} :
    iprop(known m K ∗ (src.view.loc (c : Thread nD τ) ↦[src.view.set]{q} fs) ∗ (dst.view.loc (c : Thread nD τ) ↦[dst.view.set]{fullShare} fd)
        ∗ tok c (.inr j) false)
      ⊢ iprop((due c j -∗ wpc c (k ⟨⟩) Q) -∗ wpc c (.op (.enqueueDma src (.here dst) (.dma sem) hsrc hdst hsem) k) Q) := by
  unfold known due tok
  iintro ⟨⟨#HR, -⟩, Hs, Hd, Ht⟩
  iintro Hk
  iapply (Rounds.wp_copy_pointsTo 𝒱₀ ER (sched m) (c : Thread nD τ) none (κ := K (c, .inr j)) (r := 0) (d := false) (src := src) (dst := dst)
      (sem := .dma sem) (fs := fs) (fd := fd) (q := q)
      (by rw [hs]; exact mem_duties_own m c j) () (amt (.inr j)) hN (by rw [hs]; exact amount_at m c (.inr j) false)
      (hpay.trans (by rw [hs]; exact Entails.of_eq (payload_at m c (.inr j) false).symm))) $$ [Hs Hd Ht]
  · rw [hs]
    isplitr; · iapply (records_inv m K (c, .inr j)); iexact HR
    isplitl [Hs]; · iexact Hs
    isplitl [Hd]; · iexact Hd
    isplitl [Ht]; · iexact Ht
    iapply (records_reached m K (c, .inr j)); iexact HR
  rw [hs]
  iexact Hk

/-- A transfer to device `n`: its source pays the cell `j` here, its landing the cell `j'` there. -/
theorem send_dma (c n : Dev nD) (j j' : Own) {sp sp' : Space} {s : Shape} {e : EltTy} {sS sem : DmaSem sig}
    (src : Memref sig .tc sp s e) (dst : Memref sig .tc sp' s e) {hsrc : src.view.WordExact} {hdst : dst.view.WordExact}
    {hsc : dst.view.ref.isScScratch = false}
    {hsem : DmaTarget.Typed (nD := nD) (p := .tc) sp (.dma sem) (.remote (Dev.tc n) dst (.dma sS) hsc)}
    (hsS : SemLoc.dma sS = osem j) (hs : SemLoc.dma sem = osem j') (hN : dst.view.dmaCredit = amt (.inr j)) (hN' : amt (.inr j') = amt (.inr j))
    (q : PosShare TreeShare) (fs : Buf (Elt F) (src.view.loc (c : Thread nD τ))) (fd : Buf (Elt F) (dst.view.loc (n : Thread nD τ)))
    (O₀ O : CellTallies nD τ sig Unit) (hO : O₀ = O + tallyAt (kcell (n, .inr j')) () (amt (.inr j)))
    (hpay : (src.view.loc (c : Thread nD τ) ↦[src.view.set]{q} fs) ⊢ pay m c (.inr j) false)
    (hpay' : (dst.view.loc (n : Thread nD τ) ↦[dst.view.set]{fullShare} (dst.view.write (Elt F) fd (src.view.read (Elt F) fs) Finset.univ))
      ⊢ pay m n (.inr j') false)
    {α : Type} {k : PUnit → Code F α} {Q : α → sProp 𝕄} :
    iprop(known m K ∗ (src.view.loc (c : Thread nD τ) ↦[src.view.set]{q} fs) ∗ (dst.view.loc (n : Thread nD τ) ↦[dst.view.set]{fullShare} fd)
        ∗ owed c O₀ ∗ tok c (.inr j) false ∗ tok n (.inr j') false)
      ⊢ iprop(((due c j ∗ owed c O) -∗ wpc c (k ⟨⟩) Q)
          -∗ wpc c (.op (.enqueueDma src (.remote (Dev.tc n) dst (.dma sS) hsc) (.dma sem) hsrc hdst hsem) k) Q) := by
  unfold known due tok owed
  iintro ⟨⟨#HR, -⟩, Hs, Hd, ⟨%W, HO⟩, Ht, Ht'⟩
  iintro Hk
  iapply (Rounds.wp_send_pointsTo 𝒱₀ ER (sched m) (c : Thread nD τ) none (c' := Dev.tc n) (κ₁ := K (c, .inr j)) (κ₂ := K (n, .inr j'))
      (r₁ := 0) (r₂ := 0) (d₁ := false) (d₂ := false) (src := src) (dst := dst) (sS := .dma sS) (sem := .dma sem) (fs := fs) (fd := fd) (q := q)
      (by rw [hsS]; exact mem_duties_own m c j) (by rw [hs]; exact mem_duties_own m n j')
      () () (amt (.inr j)) hN (by rw [hsS]; exact amount_at m c (.inr j) false)
      (by rw [hs]; exact (amount_at m n (.inr j') false).trans hN') (O₀ := O₀) O (by rw [hs]; exact hO) (W := W)
      (hpay.trans (by rw [hsS]; exact Entails.of_eq (payload_at m c (.inr j) false).symm))
      (hpay'.trans (by rw [hs]; exact Entails.of_eq (payload_at m n (.inr j') false).symm))) $$ [Hs Hd HO Ht Ht']
  · rw [hs, hsS]
    isplitr; · iapply (records_inv m K (c, .inr j)); iexact HR
    isplitr; · iapply (records_inv m K (n, .inr j')); iexact HR
    isplitl [Hs]; · iexact Hs
    isplitl [Hd]; · iexact Hd
    isplitl [HO]; · iexact HO
    isplitl [Ht]; · iexact Ht
    isplitr; · iapply (records_reached m K (c, .inr j)); iexact HR
    isplitl [Ht']; · iexact Ht'
    iapply (records_reached m K (n, .inr j')); iexact HR
  rw [hsS]
  iintro ⟨Hc, HO⟩
  iapply Hk
  isplitl [Hc]; · iexact Hc
  iexists W; iexact HO

end Cert.KernelIdealProof

end
-- ==== Proof.KernelIdealPhases.lean ====
/-
# What each phase takes and leaves

The phases of the body at a symbolic device `c` and piece `k`: starting the copy to the stage, sending a staged piece along
`y`, summing and normalising a piece and sending it along `x`, and the waits at the end.
-/
module

public import proofs.«01_k».proof.Proof.KernelIdealBody

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cl → ℕ)

/-- The staged scale vector on device `c`. -/
def gPts (c : Dev nD) : sProp 𝕄 :=
  (gM : Memref sig .tc .vmem S2048 .f32).view.loc (c : Thread nD τ) ↦[(gM : Memref sig .tc .vmem S2048 .f32).view.set]{fullShare} scale m c

/-! ## Contents after a transfer -/

theorem sPts_land (c : Dev nD) (k : Fin 32) (fd : Buf (Elt F) ((pc sM k).view.loc (c : Thread nD τ))) :
    ((pc sM k).view.loc (c : Thread nD τ) ↦[(pc sM k).view.set]{fullShare}
        ((pc sM k).view.write (Elt F) fd ((srcK c k).view.read (Elt F) (m ((c : Thread nD τ).loc main_arg0))) Finset.univ) : sProp 𝕄)
      = sPts c k (rowsOf m (yN c) c) := by
  unfold sPts
  exact pointsTo_congr (write_agrees (pc sM k).view _ _ _ fun j => (read_src m c k j).symm)

theorem rAll_land (c : Dev nD) (fd : Buf (Elt F) ((rM : Memref sig .tc .vmem S1024x2048 .f32).view.loc (c : Thread nD τ))) :
    ((rM : Memref sig .tc .vmem S1024x2048 .f32).view.loc (c : Thread nD τ) ↦[(rM : Memref sig .tc .vmem S1024x2048 .f32).view.set]{fullShare}
        ((rM : Memref sig .tc .vmem S1024x2048 .f32).view.write (Elt F) fd ((ownM c).view.read (Elt F) (m ((c : Thread nD τ).loc main_arg0))) Finset.univ) : sProp 𝕄)
      = rAll c (rowsOf m c c) := by
  unfold rAll
  exact pointsTo_congr (write_agrees (rM : Memref sig .tc .vmem S1024x2048 .f32).view _ _ _ fun j => (read_own m c j).symm)

omit [FloatOps F] in
theorem cPts_land (c e : Dev nD) (k : Fin 32) (fd : Buf (Elt F) ((pc cM k).view.loc (e : Thread nD τ))) (X : S1024x2048.Idx → Elt F .f32) :
    ((pc cM k).view.loc (e : Thread nD τ) ↦[(pc cM k).view.set]{fullShare}
        ((pc cM k).view.write (Elt F) fd ((pc sM k).view.read (Elt F) (X : Buf (Elt F) ((pc sM k).view.loc (c : Thread nD τ)))) Finset.univ) : sProp 𝕄)
      = cPts e k X := by
  unfold cPts
  exact pointsTo_congr (write_agrees (pc cM k).view _ _ _ fun j => rfl)

theorem oPts_land (c e : Dev nD) (he : e.val % 2 = c.val % 2) (k : Fin 32) (fd : Buf (Elt F) ((outK c k).view.loc (e : Thread nD τ))) :
    ((outK c k).view.loc (e : Thread nD τ) ↦[(outK c k).view.set]{fullShare}
        ((outK c k).view.write (Elt F) fd ((pc rM k).view.read (Elt F) (quarterOf m c : Buf (Elt F) ((pc rM k).view.loc (c : Thread nD τ)))) Finset.univ) : sProp 𝕄)
      = oPts e c k (resultOf m e) := by
  unfold oPts
  exact pointsTo_congr (write_agrees (outK c k).view _ _ _ fun j => read_out m c e he k j)

theorem rPts_store (c : Dev nD) (k : Fin 32) (fd : Buf (Elt F) ((rM : Memref sig .tc .vmem S1024x2048 .f32).view.loc (c : Thread nD τ))) :
    (((rM : Memref sig .tc .vmem S1024x2048 .f32).access (rK k)).loc (c : Thread nD τ) ↦[(pc rM k).view.set]{fullShare}
        (((rM : Memref sig .tc .vmem S1024x2048 .f32).access (rK k)).write (Elt F) fd (normedOf m c k) Finset.univ) : sProp 𝕄)
      = rPts c k fullShare (quarterOf m c) := by
  unfold rPts
  exact pointsTo_congr (write_agrees ((rM : Memref sig .tc .vmem S1024x2048 .f32).access (rK k)) _ _ _ fun j => congrFun (piece_quarterOf m c k) j)

/-! ## What the cells hand -/

theorem pay_stage (c : Dev nD) (k : Fin 32) : pay m c (cStage k) false = iprop(sPts c k (rowsOf m (yN c) c) ∗ srcPts m c k) := rfl
theorem pay_keep (c : Dev nD) : pay m c cKeep false = iprop(rAll c (rowsOf m c c) ∗ ownPts m c) := rfl
theorem pay_ySend (c : Dev nD) (k : Fin 32) : pay m c (cYSend k) false = sPts c k (rowsOf m (yN c) c) := rfl
theorem pay_yRecv (c : Dev nD) (k : Fin 32) : pay m c (cYRecv k) false = cPts c k (rowsOf m c (yN c)) := rfl
theorem pay_xSend (c : Dev nD) (k : Fin 32) : pay m c (cXSend k) false = rPts c k fullShare.left (quarterOf m c) := rfl
theorem pay_xRecv (c : Dev nD) (k : Fin 32) : pay m c (cXRecv k) false = oPts c (xN c) k (resultOf m c) := rfl
theorem pay_out (c : Dev nD) (k : Fin 32) :
    pay m c (cOut k) false = iprop(oPts c c k (resultOf m c) ∗ rPts c k fullShare.right (quarterOf m c)) := rfl

/-! ## The levels of what is owed at each wait -/

theorem owed_above_x {c : Dev nD} {ks : List (Fin 32)} {l : ℕ} (hl : l < 3) (g : GSem nD τ sig) (u : Unit) (hg : 0 < owX c ks g u) :
    ∃ e x, g = kcell (e, x) ∧ l < levelOf x := by
  obtain ⟨k, rfl⟩ := owX_pos hg
  exact ⟨_, _, rfl, hl⟩

theorem owed_above_xy {c : Dev nD} {ks ks' : List (Fin 32)} {l : ℕ} (hl : l < 2) (g : GSem nD τ sig) (u : Unit)
    (hg : 0 < (owX c ks + owY c ks') g u) : ∃ e x, g = kcell (e, x) ∧ l < levelOf x := by
  rcases add_pos hg with h | h
  · exact owed_above_x (by omega) g u h
  · obtain ⟨k, rfl⟩ := owY_pos h
    exact ⟨_, _, rfl, hl⟩

theorem owed_none {l : ℕ} (g : GSem nD τ sig) (u : Unit) (hg : 0 < (0 : CellTallies nD τ sig Unit) g u) :
    ∃ e x, g = kcell (e, x) ∧ l < levelOf x := absurd hg (Nat.lt_irrefl 0)

/-! ## The phases before the rows along `y` are waited for -/

theorem stage_start (c : Dev nD) (k : Fin 32) :
    iprop(known m K ∗ ((∃ f, sPts (F := F) c k f) ∗ srcPts m c k ∗ tok c (cStage k) false) ∗ emp)
      ⊢ wpc c (stageStart c k) (fun _ => iprop(due c (.inr (4, k)) ∗ emp)) := by
  unfold stageStart
  simp only [Prog.lift]
  iintro ⟨#HN, ⟨⟨%f, Hs⟩, Hsrc, Ht⟩, -⟩
  iapply (copy_dma m K c (.inr (4, k)) (srcK c k) (pc sM k) rfl rfl fullShare (m ((c : Thread nD τ).loc main_arg0)) f
      (by rw [sPts_land]; exact Entails.of_eq (pay_stage m c k).symm)) $$ [Hs Hsrc Ht]
  · isplitr; · iexact HN
    isplitl [Hsrc]; · unfold srcPts; iexact Hsrc
    isplitl [Hs]; · unfold sPts; iexact Hs
    iexact Ht
  iintro Hc
  unfold wpc
  rw [wp_ret]; imodintro
  isplitl; · iexact Hc
  iempintro

theorem own_start (c : Dev nD) :
    iprop(known m K ∗ (∃ f, rAll (F := F) c f) ∗ ownPts m c ∗ tok c cKeep false)
      ⊢ wpc c (ownStart c) (fun _ => due c (.inl ())) := by
  unfold ownStart
  simp only [Prog.lift]
  iintro ⟨#HN, ⟨%f, Hs⟩, Hsrc, Ht⟩
  iapply (copy_dma m K c (.inl ()) (ownM c) rM rfl rfl fullShare (m ((c : Thread nD τ).loc main_arg0)) f
      (by rw [rAll_land]; exact Entails.of_eq (pay_keep m c).symm)) $$ [Hs Hsrc Ht]
  · isplitr; · iexact HN
    isplitl [Hsrc]; · unfold ownPts; iexact Hsrc
    isplitl [Hs]; · unfold rAll; iexact Hs
    iexact Ht
  iintro Hc
  unfold wpc
  rw [wp_ret]; imodintro
  iexact Hc

theorem y_send (c : Dev nD) (k : Fin 32) (ks : List (Fin 32)) :
    iprop(known m K ∗ (due c (.inr (4, k)) ∗ before c (cStage k) ∗ (∃ f, cPts (F := F) (yN c) k f) ∗ tok c (cYSend k) false ∗ tok (yN c) (cYRecv k) false)
        ∗ owed c (owX c pieces + owY c (k :: ks)))
      ⊢ wpc c (ySend c k) (fun _ => iprop((past c (cStage k) ∗ srcPts m c k ∗ due c (.inr (0, k))) ∗ owed c (owX c pieces + owY c ks))) := by
  rw [← yW_eq c]
  unfold ySend
  simp only [Prog.lift, Prog.bind_op, Prog.bind_ret]
  iintro ⟨#HN, ⟨Hd, Hb, ⟨%f, Hc⟩, Ht, Ht'⟩, HO⟩
  iapply (wait_dma m K c (.inr (4, k)) (srcK c k) (pc sM k) rfl rfl (owX c pieces + owY c (k :: ks))
    (owed_above_xy (Nat.succ_pos _))) $$ [Hd Hb HO]
  · isplitr; · iexact HN
    isplitl [Hd]; · iexact Hd
    isplitl [HO] <;> iassumption
  rw [pay_stage]
  iintro ⟨HO, Hp, Hs, Hsrc⟩
  iapply (send_dma m K c (yW c) (.inr (0, k)) (.inr (1, k)) (pc sM k) (pc cM k) rfl rfl rfl rfl fullShare (rowsOf m (yN c) c) f
      (owX c pieces + owY c (k :: ks)) (owX c pieces + owY c ks) (by rw [owY_cons, ← yW_eq c, add_assoc]; rfl)
      (Entails.of_eq (pay_ySend m c k).symm)
      (by
        rw [cPts_land c (yW c), pay_yRecv, yW_eq, yN_yN])) $$ [Hs Hc HO Ht Ht']
  · isplitr; · iexact HN
    isplitl [Hs]; · unfold sPts; iexact Hs
    isplitl [Hc]; · unfold cPts; iexact Hc
    isplitl [HO]; · iexact HO
    isplitl [Ht] <;> iassumption
  iintro ⟨Hc, HO⟩
  unfold wpc
  rw [wp_ret]; imodintro
  isplitl [Hp Hsrc Hc]
  · isplitl [Hp]; · iexact Hp
    isplitl [Hsrc] <;> iassumption
  iexact HO

theorem own_wait (c : Dev nD) :
    iprop(known m K ∗ due c (.inl ()) ∗ before c cKeep ∗ owed c (owX c pieces + owY c []))
      ⊢ wpc c (ownWait c) (fun _ => iprop(past c cKeep ∗ (rAll c (rowsOf m c c) ∗ ownPts m c) ∗ owed c (owX c pieces))) := by
  rw [show owX c pieces + owY c [] = owX c pieces from add_zero _]
  unfold ownWait
  simp only [Prog.lift]
  iintro ⟨#HN, Hd, Hb, HO⟩
  iapply (wait_dma m K c (.inl ()) (ownM c) rM rfl rfl (owX c pieces) (owed_above_x (Nat.succ_pos _))) $$ [Hd Hb HO]
  · isplitr; · iexact HN
    isplitl [Hd]; · iexact Hd
    isplitl [HO] <;> iassumption
  rw [pay_keep]
  iintro ⟨HO, Hp, Hpay⟩
  unfold wpc
  rw [wp_ret]; imodintro
  isplitl [Hp]; · iexact Hp
  isplitl [Hpay]; · iexact Hpay
  iexact HO

/-! ## The sum of a piece -/

omit [FloatOps F] in
theorem rPts_halves (c : Dev nD) (k : Fin 32) (f : S1024x2048.Idx → Elt F .f32) :
    rPts c k fullShare f ⊢ iprop(rPts c k fullShare.left f ∗ rPts c k fullShare.right f) := by
  unfold rPts
  exact (pointsTo_share (PosShare.mem_left_op_right fullShare)).1

omit [FloatOps F] in
theorem rPts_whole (c : Dev nD) (k : Fin 32) (f : S1024x2048.Idx → Elt F .f32) :
    iprop(rPts c k fullShare.left f ∗ rPts c k fullShare.right f) ⊢ rPts c k fullShare f := by
  unfold rPts
  exact (pointsTo_share (PosShare.mem_left_op_right fullShare)).2

omit [FloatOps F] in
theorem read_scale (g : S2048.Idx → Elt F .f32) :
    (gM : Memref sig .tc .vmem S2048 .f32).view.readAt (Elt F) (Rect.unit (s := S2048) ![0] S2048.size inb_S2048_S2048_0).toLoadRect g = g :=
  Memref.readAt_unit_zero (Elt F) cc0_stg0_0 (by funext a; fin_cases a; rfl) inb_S2048_S2048_0 g

theorem normed_read (c : Dev nD) (k : Fin 32) :
    normed ((((rM : Memref sig .tc .vmem S1024x2048 .f32).access (rK k)).read (Elt F) (rowsOf m c c) : S32x2048.Idx → Elt F .f32))
      (((cM : Memref sig .tc .vmem S1024x2048 .f32).access (rK k)).read (Elt F) (rowsOf m c (yN c)) : S32x2048.Idx → Elt F .f32) (scale m c)
      = normedOf m c k := rfl

theorem compute_piece (c : Dev nD) (k : Fin 32) (ks : List (Fin 32)) :
    iprop(known m K ∗ (due c (.inr (1, k)) ∗ before c (cYRecv k) ∗ rPts c k fullShare (rowsOf m c c) ∗ tok c (cXSend k) false
          ∗ tok (xN c) (cXRecv k) false ∗ tok c (cOut k) false ∗ (∃ f, oPts (F := F) (xN c) c k f) ∗ (∃ f, oPts (F := F) c c k f))
        ∗ owed c (owX c (k :: ks)) ∗ gPts m c)
      ⊢ wpc c (compute c k) (fun _ => iprop((past c (cYRecv k) ∗ cPts c k (rowsOf m c (yN c)) ∗ due c (.inr (2, k)) ∗ due c (.inr (5, k)))
          ∗ owed c (owX c ks) ∗ gPts m c)) := by
  rw [← xW_eq c]
  unfold compute
  simp only [Prog.lift, Prog.bind_op, Prog.bind_ret]
  iintro ⟨#HN, ⟨Hd, Hb, Hr, Ht, Ht', Ht'', ⟨%fx, Hx⟩, ⟨%fo, Ho⟩⟩, HO, Hg⟩
  iapply (wait_dma m K c (.inr (1, k)) (pc sM k) (pc cM k) rfl rfl (owX c (k :: ks))
    (owed_above_x (Nat.lt_succ_self _))) $$ [Hd Hb HO]
  · isplitr; · iexact HN
    isplitl [Hd]; · iexact Hd
    isplitl [HO] <;> iassumption
  rw [pay_yRecv]
  iintro ⟨HO, Hp, Hc⟩
  unfold rPts cPts gPts wpc
  iapply (wp_load_rect 𝒱₀ (c : Thread nD τ) none Set.univ (m := rM) (r := rK k) (S := (pc rM k).view.set) (subset_refl _)) $$ Hr; iintro Hr
  iapply (wp_load_rect 𝒱₀ (c : Thread nD τ) none Set.univ (m := cM) (r := rK k) (S := (pc cM k).view.set) (subset_refl _)) $$ Hc; iintro Hc
  iapply (wp_load 𝒱₀ (c : Thread nD τ) none Set.univ (m := gM) (S := (gM : Memref sig .tc .vmem S2048 .f32).view.set) (View.setOn_subset_set _ _)) $$ Hg; iintro Hg
  iapply (wp_load_rect 𝒱₀ (c : Thread nD τ) none Set.univ (m := rM) (r := rK k) (S := (pc rM k).view.set) (subset_refl _)) $$ Hr; iintro Hr
  iapply (wp_store 𝒱₀ (c : Thread nD τ) none Set.univ (m := rM) (r := rK k) (Mk := Finset.univ) (S := (pc rM k).view.set) (subset_refl _)) $$ Hr; iintro Hr
  rw [read_scale, normed_read]
  ihave Hr := (Entails.of_eq (rPts_store m c k (rowsOf m c c))) $$ Hr
  icases (rPts_halves c k (quarterOf m c)) $$ Hr with ⟨Hl, Hr⟩
  iapply (send_dma m K c (xW c) (.inr (2, k)) (.inr (3, k)) (pc rM k) (outK c k) rfl rfl rfl rfl fullShare.left (quarterOf m c) fx
      (owX c (k :: ks)) (owX c ks) (by rw [owX_cons, ← xW_eq c]; rfl)
      (Entails.of_eq (pay_xSend m c k).symm)
      (by
        rw [oPts_land m c (xW c) (by rw [xW_eq]; exact xN_mod c), pay_xRecv, xW_eq, xN_xN])) $$ [Hl Hx HO Ht Ht']
  · isplitr; · iexact HN
    isplitl [Hl]; · unfold rPts; iexact Hl
    isplitl [Hx]; · unfold oPts; iexact Hx
    isplitl [HO]; · iexact HO
    isplitl [Ht] <;> iassumption
  iintro ⟨Hd, HO⟩
  iapply (copy_dma m K c (.inr (5, k)) (pc rM k) (outK c k) rfl rfl fullShare.right (quarterOf m c) fo
      (by rw [oPts_land m c c rfl]; exact Entails.of_eq (pay_out m c k).symm)) $$ [Hr Ho Ht'']
  · isplitr; · iexact HN
    isplitl [Hr]; · unfold rPts; iexact Hr
    isplitl [Ho]; · unfold oPts; iexact Ho
    iexact Ht''
  iintro Hd'
  unfold wpc
  rw [wp_ret]; imodintro
  isplitl [Hp Hc Hd Hd']
  · isplitl [Hp]; · iexact Hp
    isplitl [Hc]; · iexact Hc
    isplitl [Hd] <;> iassumption
  isplitl [HO] <;> iassumption

/-! ## The waits at the end -/

theorem x_wait (c : Dev nD) (k : Fin 32) :
    iprop(known m K ∗ (due c (.inr (3, k)) ∗ before c (cXRecv k) ∗ due c (.inr (5, k)) ∗ before c (cOut k)) ∗ owed c 0)
      ⊢ wpc c (xWait c k) (fun _ => iprop((past c (cXRecv k) ∗ past c (cOut k) ∗ oPts c (xN c) k (resultOf m c) ∗ oPts c c k (resultOf m c)
          ∗ rPts c k fullShare.right (quarterOf m c)) ∗ owed c 0)) := by
  unfold xWait
  simp only [Prog.lift, Prog.bind_op, Prog.bind_ret]
  iintro ⟨#HN, ⟨Hd, Hb, Hd', Hb'⟩, HO⟩
  iapply (wait_dma m K c (.inr (3, k)) (pc rM k) (inK c k) rfl rfl 0 owed_none) $$ [Hd Hb HO]
  · isplitr; · iexact HN
    isplitl [Hd]; · iexact Hd
    isplitl [HO] <;> iassumption
  rw [pay_xRecv]
  iintro ⟨HO, Hp, Hx⟩
  iapply (wait_dma m K c (.inr (5, k)) (pc rM k) (outK c k) rfl rfl 0 owed_none) $$ [Hd' Hb' HO]
  · isplitr; · iexact HN
    isplitl [Hd']; · iexact Hd'
    isplitl [HO] <;> iassumption
  rw [pay_out]
  iintro ⟨HO, Hp', Ho, Hr⟩
  unfold wpc
  rw [wp_ret]; imodintro
  isplitr [HO]
  · isplitl [Hp]; · iexact Hp
    isplitl [Hp']; · iexact Hp'
    isplitl [Hx]; · iexact Hx
    isplitl [Ho] <;> iassumption
  iexact HO

theorem send_wait (c : Dev nD) (k : Fin 32) :
    iprop(known m K ∗ (due c (.inr (0, k)) ∗ before c (cYSend k) ∗ due c (.inr (2, k)) ∗ before c (cXSend k)) ∗ owed c 0)
      ⊢ wpc c (sendWait c k) (fun _ => iprop((past c (cYSend k) ∗ past c (cXSend k) ∗ sPts c k (rowsOf m (yN c) c)
          ∗ rPts c k fullShare.left (quarterOf m c)) ∗ owed c 0)) := by
  unfold sendWait
  simp only [Prog.lift, Prog.bind_op, Prog.bind_ret]
  iintro ⟨#HN, ⟨Hd, Hb, Hd', Hb'⟩, HO⟩
  iapply (wait_dma m K c (.inr (0, k)) (pc cM k) (pc sM k) rfl rfl 0 owed_none) $$ [Hd Hb HO]
  · isplitr; · iexact HN
    isplitl [Hd]; · iexact Hd
    isplitl [HO] <;> iassumption
  rw [pay_ySend]
  iintro ⟨HO, Hp, Hs⟩
  iapply (wait_dma m K c (.inr (2, k)) (outK c k) (pc rM k) rfl rfl 0 owed_none) $$ [Hd' Hb' HO]
  · isplitr; · iexact HN
    isplitl [Hd']; · iexact Hd'
    isplitl [HO] <;> iassumption
  rw [pay_xSend]
  iintro ⟨HO, Hp', Hr⟩
  unfold wpc
  rw [wp_ret]; imodintro
  isplitr [HO]
  · isplitl [Hp]; · iexact Hp
    isplitl [Hp']; · iexact Hp'
    isplitl [Hs] <;> iassumption
  iexact HO

/-! ## The barrier -/

theorem pay_barY (c : Dev nD) : pay m c cBar false = barY c := rfl
theorem pay_barX (c : Dev nD) : pay m c cBar true = barX c := rfl

/-- Telling device `n` pays one of its barrier's two duties. -/
theorem signal_bar (c n : Dev nD) (d : Bool) {O₀ : CellTallies nD τ sig Unit} (O : CellTallies nD τ sig Unit)
    (hO : O₀ = O + tallyAt (kcell (n, cBar)) () 1) {α : Type} {k : PUnit → Code F α} {Q : α → sProp 𝕄} :
    iprop(known m K ∗ owed c O₀ ∗ tok n cBar d ∗ pay m n cBar d)
      ⊢ iprop((owed c O -∗ wpc c (k ⟨⟩) Q) -∗ wpc c (semSignalWord n barS 1#32 >>= k) Q) := by
  unfold known owed tok
  simp only [semSignalWord, Prog.lift, Prog.bind_op, Prog.bind_ret]
  iintro ⟨⟨#HR, -⟩, ⟨%W, HO⟩, Ht, Hp⟩
  iintro Hk
  iapply (Rounds.wp_signal 𝒱₀ ER (sched m) (c : Thread nD τ) none (dst := Dev.tc n) (κ := K (n, cBar)) (mem_duties_bar m n d)
    (amount_at m n cBar d) () O hO) $$ [HO Ht Hp]
  · isplitr; · iapply (records_inv m K (n, cBar)); iexact HR
    isplitl [HO]; · iexact HO
    isplitl [Ht]; · iexact Ht
    isplitl [Hp]; · iapply (Entails.of_eq (payload_at m n cBar d).symm); iexact Hp
    iapply (records_reached m K (n, cBar)); iexact HR
  iintro HO
  iapply Hk
  iexists W; iexact HO

/-- The barrier: what this device hands each neighbour goes, and what they hand it comes. -/
theorem hand_over (c : Dev nD) :
    iprop(known m K ∗ owed c (O₀ c) ∗ tok (yN c) cBar false ∗ tok (xN c) cBar true ∗ barY (F := F) (yN c) ∗ barX (F := F) (xN c)
        ∗ cred (tallyAt (kcell (c, cBar)) () 2) ∗ before c cBar)
      ⊢ wpc c (hand c) (fun _ => iprop(owed c (owX c pieces + owY c pieces) ∗ past c cBar ∗ barY (F := F) c ∗ barX (F := F) c)) := by
  unfold O₀
  rw [← yW_eq c, ← xW_eq c]
  unfold hand
  iintro ⟨#HN, HO, Ht, Ht', Hy, Hx, Hc, Hb⟩
  iapply (signal_bar m K c (yW c) false _ rfl) $$ [HO Ht Hy]
  · isplitr; · iexact HN
    isplitl [HO]; · iexact HO
    isplitl [Ht]; · iexact Ht
    iapply (Entails.of_eq (pay_barY m (yW c)).symm); iexact Hy
  iintro HO
  iapply (signal_bar m K c (xW c) true _ rfl) $$ [HO Ht' Hx]
  · isplitr; · iexact HN
    isplitl [HO]; · iexact HO
    isplitl [Ht']; · iexact Ht'
    iapply (Entails.of_eq (pay_barX m (xW c)).symm); iexact Hx
  iintro HO
  unfold known owed before past wpc
  simp only [semWaitWord, Prog.lift]
  icases HN with ⟨#HR, #HL⟩
  icases HO with ⟨%W, HO⟩
  iapply (Rounds.wp_wait_rest_token 𝒱₀ ER (sched m) (c : Thread nD τ) none (κ := K (c, cBar)) (sm := csem cBar)
    (fun Q => wpE_semWait_eq 𝒱₀ (c : Thread nD τ) none Set.univ Q) (Set.mem_univ _) ()
    (O := owX c pieces + owY c pieces) (W := W) (R := 0) (m := 0) (T := ∅) (k' := 2) (expect_bar m c).symm) $$ [Hc HO Hb]
  · isplitr; · iapply (records_inv m K (c, cBar)); iexact HR
    isplitl [Hc]; · iexact Hc
    isplitl [HO]; · iexact HO
    isplitr; · iapply (mayWait 1 c (csem cBar) (le_of_eq (lv_at c cBar ())) _ (owed_above_xy (Nat.lt_succ_self _))); iexact HL
    iexact Hb
  iintro ⟨HO, Hat, -, Hpay⟩
  ihave Hpay := (Entails.of_eq (rest_bar m c)) $$ Hpay
  rw [wp_ret]; imodintro
  isplitl [HO]; · iexists _; iexact HO
  isplitl [Hat]; · iexact Hat
  iexact Hpay

end Cert.KernelIdealProof

end
-- ==== Proof.KernelIdealBuffers.lean ====
/-
# The buffers in pieces, and back

Each buffer of the kernel is cut into the pieces that its transfers move, and the pieces are joined again at the end.
-/
module

public import proofs.«01_k».proof.Proof.KernelIdealPhases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The scratch buffers -/

theorem c_set (k : Fin 32) : (pc cM k).view.set = (rK k).set := View.set_slice_whole cc0_scratch0 (rK k)
theorem s_set (k : Fin 32) : (pc sM k).view.set = (rK k).set := View.set_slice_whole cc0_scratch1 (rK k)
theorem r_set (k : Fin 32) : (pc rM k).view.set = (rK k).set := View.set_slice_whole cc0_scratch2 (rK k)

omit [FloatOps F] in
theorem cPts_eq (c : Dev nD) (k : Fin 32) (f : S1024x2048.Idx → Elt F .f32) :
    (cPts c k f : sProp 𝕄) = (((c : Thread nD τ).loc cc0_scratch0) ↦[(rK k).set]{fullShare} f) := by
  unfold cPts
  rw [c_set]

omit [FloatOps F] in
/-- The landing buffer is its pieces; -/
theorem c_pieces (c : Dev nD) (f : S1024x2048.Idx → Elt F .f32) :
    (((c : Thread nD τ).loc cc0_scratch0) ↦{fullShare} f : sProp 𝕄) = bigSep Finset.univ fun k : Fin 32 => cPts c k f := by
  simp only [cPts_eq]
  exact Ring.pointsTo_blocks (ℓ := (c : Thread nD τ).loc cc0_scratch0) (fun k => (rK k).set) piece_disjoint piece_cover f

omit [FloatOps F] in
theorem sPts_eq (c : Dev nD) (k : Fin 32) (f : S1024x2048.Idx → Elt F .f32) :
    (sPts c k f : sProp 𝕄) = (((c : Thread nD τ).loc cc0_scratch1) ↦[(rK k).set]{fullShare} f) := by
  unfold sPts
  rw [s_set]

omit [FloatOps F] in
/-- so is the stage; -/
theorem s_pieces (c : Dev nD) (f : S1024x2048.Idx → Elt F .f32) :
    (((c : Thread nD τ).loc cc0_scratch1) ↦{fullShare} f : sProp 𝕄) = bigSep Finset.univ fun k : Fin 32 => sPts c k f := by
  simp only [sPts_eq]
  exact Ring.pointsTo_blocks (ℓ := (c : Thread nD τ).loc cc0_scratch1) (fun k => (rK k).set) piece_disjoint piece_cover f

omit [FloatOps F] in
theorem rPts_eq (c : Dev nD) (k : Fin 32) (f : S1024x2048.Idx → Elt F .f32) :
    (rPts c k fullShare f : sProp 𝕄) = (((c : Thread nD τ).loc cc0_scratch2) ↦[(rK k).set]{fullShare} f) := by
  unfold rPts
  rw [r_set]

omit [FloatOps F] in
/-- and so is the buffer of the rows kept. -/
theorem r_pieces (c : Dev nD) (f : S1024x2048.Idx → Elt F .f32) :
    (((c : Thread nD τ).loc cc0_scratch2) ↦{fullShare} f : sProp 𝕄) = bigSep Finset.univ fun k : Fin 32 => rPts c k fullShare f := by
  simp only [rPts_eq]
  exact Ring.pointsTo_blocks (ℓ := (c : Thread nD τ).loc cc0_scratch2) (fun k => (rK k).set) piece_disjoint piece_cover f

omit [FloatOps F] in
theorem r_all (c : Dev nD) (f : S1024x2048.Idx → Elt F .f32) :
    (((c : Thread nD τ).loc cc0_scratch2) ↦{fullShare} f : sProp 𝕄) = rAll c f := by
  unfold rAll
  rw [show (rM : Memref sig .tc .vmem S1024x2048 .f32).view.set = Finset.univ from View.set_whole cc0_scratch2]

omit [FloatOps F] in
theorem some_of {I : Type} (Φ : I → Fin 32 → sProp 𝕄) (f : I) : (bigSep Finset.univ (Φ f)) ⊢ bigSep Finset.univ fun k : Fin 32 => iprop(∃ g, Φ g k) :=
  bigSep_mono fun k _ => show Φ f k ⊢ iprop(∃ g, Φ g k) by iintro H; iexists f; iexact H

/-! ## The summands -/

/-- The part of the summands that device `c` reads no row of. -/
def unread (c : Dev nD) : sProp 𝕄 :=
  ((c : Thread nD τ).loc main_arg0) ↦[(Finset.univ \ sent c) \ (ownM c).view.set]{fullShare} m ((c : Thread nD τ).loc main_arg0)

omit [FloatOps F] in
/-- The summands are the rows sent, the rows kept, and the rest. -/
theorem summand_pieces (c : Dev nD) :
    (((c : Thread nD τ).loc main_arg0) ↦{fullShare} m ((c : Thread nD τ).loc main_arg0) : sProp 𝕄)
      ⊣⊢ iprop((bigSep Finset.univ fun k : Fin 32 => srcPts m c k) ∗ ownPts m c ∗ unread m c) := by
  have h1 : (((c : Thread nD τ).loc main_arg0) ↦[sent c]{fullShare} m ((c : Thread nD τ).loc main_arg0) : sProp 𝕄)
      = bigSep Finset.univ fun k : Fin 32 => srcPts m c k := by
    unfold srcPts sent
    exact Ring.pointsTo_sub_blocks (ℓ := (c : Thread nD τ).loc main_arg0) (fun k => (srcK c k).view.set) (src_disjoint c) _ rfl (m ((c : Thread nD τ).loc main_arg0))
  refine (pointsTo_split_subset (Finset.subset_univ (sent c))).trans ?_
  rw [h1]
  unfold ownPts unread
  exact sep_congr_right (pointsTo_split_subset (own_off_sent c))

/-! ## The result -/

omit [FloatOps F] in
/-- The result of device `e` is the rows that the device `c` of its column computes, and those that the other one does. -/
theorem result_pieces (e c : Dev nD) (f : S2048x2048.Idx → Elt F .f32) :
    (((e : Thread nD τ).loc main_v1) ↦{fullShare} f : sProp 𝕄)
      ⊣⊢ iprop((bigSep Finset.univ fun k : Fin 32 => oPts e c k f) ∗ bigSep Finset.univ fun k : Fin 32 => oPts e (xN c) k f) := by
  have h (d : Dev nD) : (((e : Thread nD τ).loc main_v1) ↦[quarter d]{fullShare} f : sProp 𝕄) = bigSep Finset.univ fun k : Fin 32 => oPts e d k f := by
    unfold oPts quarter
    exact Ring.pointsTo_sub_blocks (ℓ := (e : Thread nD τ).loc main_v1) (fun k => (outK d k).view.set) (out_disjoint d) _ rfl f
  refine (pointsTo_split_subset (Finset.subset_univ (quarter c))).trans ?_
  rw [quarter_other, h, h]

end Cert.KernelIdealProof

end
-- ==== Proof.KernelIdealWhole.lean ====
/-
# The body of one device, whole

The phases in order, from what the launch deals a device to its result.
-/
module

public import proofs.«01_k».proof.Proof.KernelIdealBuffers

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cl → ℕ)

/-! ## Something for every piece -/

/-- `Φ` of every piece. -/
def every (Φ : Fin 32 → sProp 𝕄) : sProp 𝕄 := bigSep Finset.univ Φ

omit [FloatOps F] in
theorem every_sep (Φ Ψ : Fin 32 → sProp 𝕄) : every (fun k => iprop(Φ k ∗ Ψ k)) = iprop(every Φ ∗ every Ψ) := bigSep_sep' _ _ _

omit [FloatOps F] in
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
/-- Something of every cell: of the barrier, of the cell of the rows kept, and of the six cells of every piece. -/
theorem every_cell (Φ : Cl → sProp 𝕄) : bigSep Finset.univ Φ
    = iprop(Φ cBar ∗ Φ cKeep ∗ every (fun k => Φ (cYSend k)) ∗ every (fun k => Φ (cYRecv k)) ∗ every (fun k => Φ (cXSend k))
      ∗ every (fun k => Φ (cXRecv k)) ∗ every (fun k => Φ (cStage k)) ∗ every (fun k => Φ (cOut k))) := by
  have hu (Ψ : Unit → sProp 𝕄) : bigSep Finset.univ Ψ = Ψ () := bigSep_singleton ..
  rw [bigSep_univ_sum, bigSep_univ_sum, hu, hu, bigSep_univ_prod, bigSep_six]
  rfl

/-! ## The loops -/

theorem pieces_rule (c : Dev nD) (Pre Post : Fin 32 → sProp 𝕄) (S : List (Fin 32) → sProp 𝕄) (f : Fin 32 → Code F PUnit)
    (h : ∀ k ks, iprop(known m K ∗ Pre k ∗ S (k :: ks)) ⊢ wpc c (f k) (fun _ => iprop(Post k ∗ S ks))) :
    iprop(known m K ∗ every Pre ∗ S pieces) ⊢ wpc c (each f pieces) (fun _ => iprop(every Post ∗ S [])) :=
  wp_pieces c (known m K) Pre Post S f h

theorem stages (c : Dev nD) :
    iprop(known m K ∗ (every (fun k => iprop(∃ f, sPts (F := F) c k f)) ∗ every (srcPts m c) ∗ every (fun k => tok c (cStage k) false)) ∗ emp)
      ⊢ wpc c (each (stageStart c) pieces) (fun _ => iprop(every (fun k => due c (.inr (4, k))) ∗ emp)) := by
  have h := pieces_rule m K c _ _ (fun _ => iprop(emp)) (stageStart c) fun k _ => stage_start m K c k
  simpa only [every_sep] using h

theorem y_sends (c : Dev nD) :
    iprop(known m K ∗ (every (fun k => due c (.inr (4, k))) ∗ every (fun k => before c (cStage k)) ∗ every (fun k => iprop(∃ f, cPts (F := F) (yN c) k f))
          ∗ every (fun k => tok c (cYSend k) false) ∗ every (fun k => tok (yN c) (cYRecv k) false))
        ∗ owed c (owX c pieces + owY c pieces))
      ⊢ wpc c (each (ySend c) pieces) (fun _ => iprop((every (fun k => past c (cStage k)) ∗ every (srcPts m c) ∗ every (fun k => due c (.inr (0, k))))
          ∗ owed c (owX c pieces + owY c []))) := by
  have h := pieces_rule m K c _ _ (fun ks => owed c (owX c pieces + owY c ks)) (ySend c) fun k ks => y_send m K c k ks
  simpa only [every_sep] using h

theorem computes (c : Dev nD) :
    iprop(known m K ∗ (every (fun k => due c (.inr (1, k))) ∗ every (fun k => before c (cYRecv k)) ∗ every (fun k => rPts c k fullShare (rowsOf m c c))
          ∗ every (fun k => tok c (cXSend k) false) ∗ every (fun k => tok (xN c) (cXRecv k) false) ∗ every (fun k => tok c (cOut k) false)
          ∗ every (fun k => iprop(∃ f, oPts (F := F) (xN c) c k f)) ∗ every (fun k => iprop(∃ f, oPts (F := F) c c k f)))
        ∗ owed c (owX c pieces) ∗ gPts m c)
      ⊢ wpc c (each (compute c) pieces) (fun _ => iprop((every (fun k => past c (cYRecv k)) ∗ every (fun k => cPts c k (rowsOf m c (yN c)))
            ∗ every (fun k => due c (.inr (2, k))) ∗ every (fun k => due c (.inr (5, k))))
          ∗ owed c (owX c []) ∗ gPts m c)) := by
  have h := pieces_rule m K c _ _ (fun ks => iprop(owed c (owX c ks) ∗ gPts m c)) (compute c) fun k ks => compute_piece m K c k ks
  simpa only [every_sep] using h

theorem x_waits (c : Dev nD) :
    iprop(known m K ∗ (every (fun k => due c (.inr (3, k))) ∗ every (fun k => before c (cXRecv k)) ∗ every (fun k => due c (.inr (5, k)))
          ∗ every (fun k => before c (cOut k))) ∗ owed c 0)
      ⊢ wpc c (each (xWait c) pieces) (fun _ => iprop((every (fun k => past c (cXRecv k)) ∗ every (fun k => past c (cOut k))
            ∗ every (fun k => oPts c (xN c) k (resultOf m c)) ∗ every (fun k => oPts c c k (resultOf m c))
            ∗ every (fun k => rPts c k fullShare.right (quarterOf m c))) ∗ owed c 0)) := by
  have h := pieces_rule m K c _ _ (fun _ => owed c 0) (xWait c) fun k _ => x_wait m K c k
  simpa only [every_sep] using h

theorem send_waits (c : Dev nD) :
    iprop(known m K ∗ (every (fun k => due c (.inr (0, k))) ∗ every (fun k => before c (cYSend k)) ∗ every (fun k => due c (.inr (2, k)))
          ∗ every (fun k => before c (cXSend k))) ∗ owed c 0)
      ⊢ wpc c (each (sendWait c) pieces) (fun _ => iprop((every (fun k => past c (cYSend k)) ∗ every (fun k => past c (cXSend k))
            ∗ every (fun k => sPts c k (rowsOf m (yN c) c)) ∗ every (fun k => rPts c k fullShare.left (quarterOf m c))) ∗ owed c 0)) := by
  have h := pieces_rule m K c _ _ (fun _ => owed c 0) (sendWait c) fun k _ => send_wait m K c k
  simpa only [every_sep] using h

/-! ## What a device starts and ends with -/

/-- The tokens of the duties that device `c` pays. -/
def payToks (c : Dev nD) : sProp 𝕄 :=
  iprop(tok (yN c) cBar false ∗ tok (xN c) cBar true ∗ tok c cKeep false ∗ every (fun k => tok c (cYSend k) false) ∗ every (fun k => tok (yN c) (cYRecv k) false)
    ∗ every (fun k => tok c (cXSend k) false) ∗ every (fun k => tok (xN c) (cXRecv k) false) ∗ every (fun k => tok c (cStage k) false)
    ∗ every (fun k => tok c (cOut k) false))

/-- Its positions and its tokens. -/
def linear (c : Dev nD) : sProp 𝕄 := iprop((bigSep Finset.univ fun x : Cl => before c x) ∗ payToks c)

/-- The credit on what its neighbours owe it. -/
def credits (c : Dev nD) : sProp 𝕄 :=
  iprop(cred (tallyAt (kcell (c, cBar)) () 2) ∗ every (fun k => due c (.inr (1, k))) ∗ every (fun k => due c (.inr (3, k))))

/-- The buffers at the start, -/
def piecesBefore (c : Dev nD) : sProp 𝕄 :=
  iprop(barY (F := F) (yN c) ∗ barX (F := F) (xN c) ∗ every (fun k => iprop(∃ f, sPts (F := F) c k f)) ∗ (∃ f, rAll (F := F) c f)
    ∗ every (srcPts m c) ∗ ownPts m c ∗ every (fun k => iprop(∃ f, oPts (F := F) c c k f)))

/-- and at the end. -/
def piecesAfter (c : Dev nD) : sProp 𝕄 :=
  iprop(every (fun k => cPts c k (rowsOf m c (yN c))) ∗ every (fun k => sPts c k (rowsOf m (yN c) c)) ∗ every (fun k => rPts c k fullShare (quarterOf m c))
    ∗ every (srcPts m c) ∗ ownPts m c ∗ every (fun k => oPts c c k (resultOf m c)) ∗ every (fun k => oPts c (xN c) k (resultOf m c)))

theorem rows_pieces (c : Dev nD) (f : S1024x2048.Idx → Elt F .f32) : rAll c f ⊢ every (fun k => rPts c k fullShare f) :=
  Entails.of_eq ((r_all c f).symm.trans (r_pieces c f))

theorem rows_whole (c : Dev nD) (f : S1024x2048.Idx → Elt F .f32) :
    iprop(every (fun k => rPts c k fullShare.left f) ∗ every (fun k => rPts c k fullShare.right f)) ⊢ every (fun k => rPts c k fullShare f) := by
  rw [← every_sep]
  exact bigSep_mono fun k _ => rPts_whole c k f

/-- The whole body: it pays all it owes, waits for all that it is due, and leaves the buffers as they should be. -/
theorem prog_run (c : Dev nD) :
    iprop(known m K ∗ owed c (O₀ c) ∗ linear c ∗ credits c ∗ piecesBefore m c ∗ gPts m c)
      ⊢ wpc c prog (fun _ => iprop(owed c 0 ∗ (bigSep Finset.univ fun x : Cl => past c x) ∗ piecesAfter m c ∗ gPts m c)) := by
  unfold linear payToks credits piecesBefore piecesAfter
  rw [every_cell, every_cell]
  unfold prog
  simp only [Prog.lift, Prog.bind_op, Prog.bind_ret]
  unfold wpc
  rw [wp_deviceId]
  iintro ⟨#HN, HO, ⟨⟨Bbar, Bkeep, ByS, ByR, BxS, BxR, Bst, Bout⟩, Ty, Tx, Tkeep, TyS, TyR, TxS, TxR, Tst, Tout⟩, ⟨Cbar, CyR, CxR⟩,
    ⟨Hc, Hx, Hs, Hr, Hsrc, Hown, Ho⟩, Hg⟩
  iapply (wp_then (hand_over m K c)) $$ [HO Ty Tx Hc Hx Cbar Bbar]
  · isplitr; · iexact HN
    isplitl [HO]; · iexact HO
    isplitl [Ty]; · iexact Ty
    isplitl [Tx]; · iexact Tx
    isplitl [Hc]; · iexact Hc
    isplitl [Hx]; · iexact Hx
    isplitl [Cbar] <;> iassumption
  iintro %_ ⟨HO, Pbar, Hc, Hx⟩
  iapply (wp_then (stages m K c)) $$ [Hs Hsrc Tst]
  · isplitr; · iexact HN
    isplitl
    · isplitl [Hs]; · iexact Hs
      isplitl [Hsrc] <;> iassumption
    iempintro
  iintro %_ ⟨Cst, -⟩
  iapply (wp_then (own_start m K c)) $$ [Hr Hown Tkeep]
  · isplitr; · iexact HN
    isplitl [Hr]; · iexact Hr
    isplitl [Hown] <;> iassumption
  iintro %_ Ckeep
  iapply (wp_then (y_sends m K c)) $$ [Cst Bst Hc TyS TyR HO]
  · isplitr; · iexact HN
    isplitr [HO]
    · isplitl [Cst]; · iexact Cst
      isplitl [Bst]; · iexact Bst
      isplitl [Hc]; · unfold barY every; iexact Hc
      isplitl [TyS] <;> iassumption
    iexact HO
  iintro %_ ⟨⟨Pst, Hsrc, CyS⟩, HO⟩
  iapply (wp_then (own_wait m K c)) $$ [Ckeep Bkeep HO]
  · isplitr; · iexact HN
    isplitl [Ckeep]; · iexact Ckeep
    isplitl [Bkeep] <;> iassumption
  iintro %_ ⟨Pkeep, ⟨Hr, Hown⟩, HO⟩
  ihave Hr := (rows_pieces c (rowsOf m c c)) $$ Hr
  iapply (wp_then (computes m K c)) $$ [CyR ByR Hr TxS TxR Tout Hx Ho HO Hg]
  · isplitr; · iexact HN
    isplitr [HO Hg]
    · isplitl [CyR]; · iexact CyR
      isplitl [ByR]; · iexact ByR
      isplitl [Hr]; · iexact Hr
      isplitl [TxS]; · iexact TxS
      isplitl [TxR]; · iexact TxR
      isplitl [Tout]; · iexact Tout
      isplitl [Hx]; · unfold barX every; iexact Hx
      iexact Ho
    isplitl [HO] <;> iassumption
  iintro %_ ⟨⟨PyR, Hc, CxS, Cout⟩, HO, Hg⟩
  ihave HO := (Entails.of_eq (congrArg (owed c) (show owX c [] = 0 from rfl))) $$ HO
  iapply (wp_then (x_waits m K c)) $$ [CxR BxR Cout Bout HO]
  · isplitr; · iexact HN
    isplitr [HO]
    · isplitl [CxR]; · iexact CxR
      isplitl [BxR]; · iexact BxR
      isplitl [Cout] <;> iassumption
    iexact HO
  iintro %_ ⟨⟨PxR, Pout, Hx, Ho, Hrr⟩, HO⟩
  iapply (wp_wand frame (wpE (defs₀ (F := F)) 𝒱₀ (c : Thread nD τ) none) Set.univ) $$ [CyS ByS CxS BxS HO]
  · iapply (send_waits m K c)
    isplitr; · iexact HN
    isplitr [HO]
    · isplitl [CyS]; · iexact CyS
      isplitl [ByS]; · iexact ByS
      isplitl [CxS] <;> iassumption
    iexact HO
  iintro %_ ⟨⟨PyS, PxS, Hs, Hrl⟩, HO⟩
  isplitl [HO]; · iexact HO
  isplitl [Pbar Pkeep PyS PyR PxS PxR Pst Pout]
  · isplitl [Pbar]; · iexact Pbar
    isplitl [Pkeep]; · iexact Pkeep
    isplitl [PyS]; · iexact PyS
    isplitl [PyR]; · iexact PyR
    isplitl [PxS]; · iexact PxS
    isplitl [PxR]; · iexact PxR
    isplitl [Pst] <;> iassumption
  isplitr [Hg]
  · isplitl [Hc]; · iexact Hc
    isplitl [Hs]; · iexact Hs
    isplitl [Hrl Hrr]
    · iapply (rows_whole c (quarterOf m c))
      isplitl [Hrl] <;> iassumption
    isplitl [Hsrc]; · iexact Hsrc
    isplitl [Hown]; · iexact Hown
    isplitl [Ho] <;> iassumption
  iexact Hg

/-- At the end every cell is closed: its counter is back at zero. -/
theorem close_cells (c : Dev nD) :
    iprop(known m K ∗ (bigSep Finset.univ fun x : Cl => past c x)) ⊢ |={Set.univ}=> (bigSep Finset.univ fun x : Cl => semVal (kcell (c, x)) 0 : sProp 𝕄) := by
  have h (x : Cl) : iprop(known m K ∗ past c x) ⊢ (|={Set.univ}=> semVal (kcell (c, x)) 0 : sProp 𝕄) := by
    unfold known past
    iintro ⟨⟨#HR, -⟩, Hat⟩
    iapply (Rounds.cell_close ER (sched m) (Set.mem_univ (K (c, x))) (fun h => h) (R := 0 + 1) (duties_later m (kcell (c, x))))
    isplitr; · iapply (records_inv m K (c, x)); iexact HR
    iexact Hat
  refine (sep_mono_left (BI.bigSep_of_persistent (Finset.univ : Finset Cl) (known m K))).trans ?_
  rw [← bigSep_sep']
  exact (bigSep_mono fun x _ => h x).trans (bigSep_fupd _ _)

end Cert.KernelIdealProof

end
-- ==== Proof.KernelIdealObligation.lean ====
/-
# The body's obligation

The proof data of the kernel's one pipeline (the staged scale vector, what a device holds before and after the body, what it
owes) and the body's obligation against it.
-/
module

public import proofs.«01_k».proof.Proof.KernelIdealWhole

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- A buffer of device `c`, whole, at contents `f`. -/
abbrev whole (c : Dev nD) (b : Ref sig .tc) (f : Buf (Elt F) ((c : Thread nD τ).loc b)) : sProp 𝕄 := ((c : Thread nD τ).loc b) ↦{fullShare} f

/-- What the launch deals device `c`: the records, its positions, its tokens, its credit. -/
def start (c : Dev nD) : sProp 𝕄 := iprop((∃ K, records m K ∗ linear c) ∗ credits c ∗ levAts L lv)

/-- The scratch buffers, at any contents. -/
def scratch (c : Dev nD) : sProp 𝕄 := iprop((∃ f, whole (F := F) c cc0_scratch0 f) ∗ (∃ f, whole (F := F) c cc0_scratch1 f) ∗ (∃ f, whole (F := F) c cc0_scratch2 f))

/-- Before the body: the summands and the result as launched; -/
def Φ₀ (c : Dev nD) : sProp 𝕄 :=
  iprop((start m c ∗ whole c main_arg0 (m ((c : Thread nD τ).loc main_arg0)) ∗ whole c main_v1 (m ((c : Thread nD τ).loc main_v1))) ∗ scratch (F := F) c)
/-- after it: the summands as launched, the result as computed, every cell closed. -/
def Φ₁ (c : Dev nD) : sProp 𝕄 :=
  iprop(whole c main_arg0 (m ((c : Thread nD τ).loc main_arg0)) ∗ whole c main_v1 (resultOf m c) ∗ scratch (F := F) c
    ∗ bigSep Finset.univ fun x : Cl => semVal (kcell (c, x)) 0)

def dats (_ : Fin 1) (c : Dev nD) : Dat τ (Elt F) Unit ℕ UU ℕ cfg0 c where
  A w := m ((cfg0.win w).arr.view.loc (c : Thread nD τ))
  after w _ := match w with
    | ⟨0, _⟩ => scale m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ whole c b f) := by
  unfold owns; simp only [Memref.view_whole, View.read_whole, View.set_whole]

omit [FloatOps F] in
theorem gPts_eq (c : Dev nD) : (gPts m c : sProp 𝕄) = whole c cc0_stg0_0 (scale m c) := by
  unfold gPts
  rw [show (gM : Memref sig .tc .vmem S2048 .f32).view.set = Finset.univ from View.set_whole cc0_stg0_0]

/-- The buffers cut for the body. -/
theorem cut (c : Dev nD) :
    iprop(whole c main_arg0 (m ((c : Thread nD τ).loc main_arg0)) ∗ whole c main_v1 (m ((c : Thread nD τ).loc main_v1)) ∗ scratch (F := F) c)
      ⊢ iprop(piecesBefore m c ∗ unread m c) := by
  unfold scratch piecesBefore barY barX every
  rw [yN_yN, xN_xN]
  iintro ⟨Ha, Hv, ⟨%f0, H0⟩, ⟨%f1, H1⟩, ⟨%f2, H2⟩⟩
  icases (summand_pieces m c).1 $$ Ha with ⟨Hsrc, Hown, Hun⟩
  icases (result_pieces c c (m ((c : Thread nD τ).loc main_v1))).1 $$ Hv with ⟨Ho, Hx⟩
  ihave H0 := ((Entails.of_eq (c_pieces c f0)).trans (some_of (fun f k => cPts c k f) f0)) $$ H0
  ihave H1 := ((Entails.of_eq (s_pieces c f1)).trans (some_of (fun f k => sPts c k f) f1)) $$ H1
  ihave H2 := (Entails.of_eq (r_all c f2)) $$ H2
  ihave Ho := (some_of (fun f k => oPts c c k f) _) $$ Ho
  ihave Hx := (some_of (fun f k => oPts c (xN c) k f) _) $$ Hx
  isplitr [Hun]
  · isplitl [H0]; · iexact H0
    isplitl [Hx]; · iexact Hx
    isplitl [H1]; · iexact H1
    isplitl [H2]; · iexists f2; iexact H2
    isplitl [Hsrc]; · iexact Hsrc
    isplitl [Hown] <;> iassumption
  iexact Hun

/-- The buffers joined after it. -/
theorem join (c : Dev nD) :
    iprop(piecesAfter m c ∗ unread m c)
      ⊢ iprop(whole c main_arg0 (m ((c : Thread nD τ).loc main_arg0)) ∗ whole c main_v1 (resultOf m c) ∗ scratch (F := F) c) := by
  unfold scratch piecesAfter every
  iintro ⟨⟨H0, H1, H2, Hsrc, Hown, Ho, Hx⟩, Hun⟩
  isplitl [Hsrc Hown Hun]
  · iapply (summand_pieces m c).2
    isplitl [Hsrc]; · iexact Hsrc
    isplitl [Hown] <;> iassumption
  isplitl [Ho Hx]
  · iapply (result_pieces c c (resultOf m c)).2
    isplitl [Ho] <;> iassumption
  isplitl [H0]; · iexists _; iapply (Entails.of_eq (c_pieces c _).symm); iexact H0
  isplitl [H1]; · iexists _; iapply (Entails.of_eq (s_pieces c _).symm); iexact H1
  iexists _; iapply (Entails.of_eq (r_pieces c _).symm); iexact H2

/-- The staged scale vector, at contents equal to `X`. -/
abbrev stg (c : Dev nD) (X : (cc0_stg0_0 : Ref sig .tc).ty.Contents (Elt F)) : sProp 𝕄 :=
  iprop(∃ f : Buf (Elt F) (((c : Dev nD) : Thread nD τ).loc cc0_stg0_0), ⌜f = X⌝ ∗ whole c cc0_stg0_0 f)

def bodyPre (c : Dev nD) : sProp 𝕄 :=
  iprop(Φ₀ m c ∗ (dats m 0 c).owesAt () t0_0.castSucc ∗ (∃ d, stg c ((dats m 0 c).before (0 : Fin 1) t0_0 d)))
def bodyPost (c : Dev nD) : sProp 𝕄 :=
  iprop(Φ₁ m c ∗ (dats m 0 c).owesAt () t0_0.succ ∗ stg c (scale m c))

theorem fetch_0 : (cfg0.win (0 : Fin 1)).fetch t0_0 = true := rfl

theorem body_run (c : Dev nD) :
    bodyPre m c ⊢ wp frame (wpE (defs₀ (F := F)) 𝒱₀ (c : Thread nD τ) none) Set.univ (prog (F := F)) (fun _ => bodyPost m c) := by
  unfold bodyPre bodyPost Φ₀ Φ₁ start Dat.owesAt Pipeline.owesWithin
  rw [show (dats m 0 c).owed t0_0.castSucc = O₀ c from rfl, show (dats m 0 c).owed t0_0.succ = 0 from rfl]
  iintro ⟨⟨⟨⟨⟨%K, #HR, Hl⟩, Hcr, #HL⟩, Ha, Hv⟩, Hs⟩, ⟨%W, %hW, HO⟩, ⟨%d, %g, %hg, Hg⟩⟩
  have hx : g = scale m c := by rw [hg]; unfold Dat.before; rw [if_pos fetch_0]; rfl
  subst hx
  ihave Hg := (Entails.of_eq (gPts_eq m c).symm) $$ Hg
  icases (cut m c) $$ [Ha Hv Hs] with ⟨Hp, Hun⟩
  · isplitl [Ha]; · iexact Ha
    isplitl [Hv] <;> iassumption
  ihave HO := (show owes (c : Thread nD τ) (O₀ c) W ⊢ owed (F := F) c (O₀ c) by unfold owed; iintro H; iexists W; iexact H) $$ HO
  iapply (wp_fupd frame (wpE (defs₀ (F := F)) 𝒱₀ (c : Thread nD τ) none) Set.univ)
  iapply (wp_wand frame (wpE (defs₀ (F := F)) 𝒱₀ (c : Thread nD τ) none) Set.univ) $$ [HO Hl Hcr Hp Hg]
  · iapply (prog_run m K c)
    isplitr
    · unfold known; isplitr; · iexact HR
      iexact HL
    isplitl [HO]; · iexact HO
    isplitl [Hl]; · iexact Hl
    isplitl [Hcr]; · iexact Hcr
    isplitl [Hp] <;> iassumption
  iintro %_ ⟨HO, Hpast, Hp, Hg⟩
  imod (close_cells m K c) $$ [Hpast] with Hz
  · isplitr
    · unfold known; isplitr; · iexact HR
      iexact HL
    iexact Hpast
  icases (join m c) $$ [Hp Hun] with ⟨Ha, Hv, Hs⟩
  · isplitl [Hp] <;> iassumption
  unfold owed
  icases HO with ⟨%W', HO⟩
  imodintro
  isplitr [HO Hg]
  · isplitl [Ha]; · iexact Ha
    isplitl [Hv]; · iexact Hv
    isplitl [Hs] <;> iassumption
  isplitl [HO]
  · iexists W'
    isplitr; · ipureintro; exact fun _ _ => Or.inl trivial
    iexact HO
  iexists (scale m c)
  isplitr; · (ipureintro; rfl)
  iapply (Entails.of_eq (gPts_eq m c)); iexact Hg

theorem Φ_first (c : Dev nD) : (dats m 0 c).Φ t0_0.castSucc = Φ₀ m c := rfl
theorem Φ_last (c : Dev nD) : (dats m 0 c).Φ t0_0.succ = Φ₁ m c := rfl
theorem after_eq (c : Dev nD) : (dats m 0 c).after (0 : Fin 1) t0_0 = scale m c := rfl

set_option maxRecDepth 65536 in
/-- The body's obligation. -/
theorem body_obligation (c : Dev nD) : BodyObligation (dats (F := F) m 0 c) (defs₀ (F := F)) 𝒱₀ () Set.univ := fun t => by
  rw [fin_N0 t]
  rw [bigSep_W0, bigSep_W0]
  have h := body_run m c
  rw [← body_eq] at h
  unfold bodyPre bodyPost stg at h
  simp only [owns_whole_eq]
  rw [Φ_first, Φ_last, after_eq]
  exact h

end Cert.KernelIdealProof

end
-- ==== Proof.KernelIdealLaunch.lean ====
/-
# The launch

What each device is dealt at launch: its cells' states and tokens, exchanged between neighbours, and the credit on what its
neighbours owe it.
-/
module

public import proofs.«01_k».proof.Proof.KernelIdealObligation

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The semaphores -/

theorem stage_sem (w : Fin 1) (s : Fin (spec0 w).nbuf) : ((spec0 w).sem s : DmaSem sig).val = 0 := by
  revert w s; decide

theorem ownSemFacts : Pipeline.OwnSemFacts spec0 osem where
  isScoped j := by
    rcases j with ⟨⟩ | ⟨a, k⟩
    · rfl
    · revert a k; decide
  inj := osem_inj
  disj j w s h := by
    have h1 := cellOfSem_stage _ (stage_sem w s)
    rw [← h] at h1
    have h2 := cellOfSem_csem (.inr j)
    rw [show csem (.inr j) = osem j from rfl, h1] at h2
    cases h2

omit [FloatOps F] in
theorem unscopedSems0_eq (c : Dev nD) : (unscopedSems0 c : sProp 𝕄) = semVal (kcell (c, cBar)) 0 := by
  unfold unscopedSems0; rw [bigSep_eq_bigSepL_of_eq [SemLoc.reg barS] (by decide) (by decide)]; rfl

omit [FloatOps F] in
/-- The kernel's own semaphores and the barrier's are the cells. -/
theorem sems0_eq (c : Dev nD) :
    (bigSep Finset.univ fun x : Cl => semVal (kcell (c, x)) 0 : sProp 𝕄)
      = iprop(unscopedSems0 c ∗ Pipeline.ownSems0 (Ix := Unit) (Name := ℕ) (U := UU) (Lvl := ℕ) (Val := Elt F) (τ := τ) osem c) := by
  rw [unscopedSems0_eq, bigSep_univ_sum, show (bigSep Finset.univ fun u : Unit => semVal (kcell (c, .inl u)) 0 : sProp 𝕄) = semVal (kcell (c, cBar)) 0 from bigSep_singleton ..]
  rfl

/-! ## The tokens -/

/-- The duties of a device's cells: the first of every cell, and the barrier's second. -/
abbrev tokOf (cj : Dev nD × (Cl ⊕ Unit)) : GSem nD τ sig × ℕ × Bool :=
  match cj.2 with
  | .inl x => (kcell (cj.1, x), 0, false)
  | .inr _ => (kcell (cj.1, cBar), 0, true)

theorem tokOf_inj : Function.Injective tokOf := by
  rintro ⟨c, x | ⟨⟩⟩ ⟨c', x' | ⟨⟩⟩ h
  · have := kcell_inj (congrArg Prod.fst h); cases this; rfl
  · have := congrArg (fun t : GSem nD τ sig × ℕ × Bool => t.2.2) h; cases this
  · have := congrArg (fun t : GSem nD τ sig × ℕ × Bool => t.2.2) h; cases this
  · have := kcell_inj (congrArg Prod.fst h); cases this; rfl

def allCells : Finset (GSem nD τ sig) := Finset.univ.map ⟨kcell, kcell_inj⟩
def allToks : Finset (GSem nD τ sig × ℕ × Bool) := Finset.univ.map ⟨tokOf, tokOf_inj⟩

def u₀ : UU := (initOf (Pipeline.cells cfgs cellOf_inj) (Pipeline.launchToks cfgs cellOf_inj), initOf allCells allToks)

/-- The tokens of device `c`'s own cells. -/
def toks (c : Dev nD) : sProp 𝕄 := iprop((bigSep Finset.univ fun x : Cl => tok c x false) ∗ tok c cBar true)

/-- What the launch element deals device `c`. -/
def G (c : Dev nD) : sProp 𝕄 :=
  iprop((bigSep Finset.univ fun x : Cl => roundState ER (sched m) (kcell (c, x)) 0)
    ∗ (bigSep Finset.univ fun x : Cl => before c x) ∗ (bigSep Finset.univ fun x : Cl => reached ER (kcell (c, x)) 0) ∗ toks c)

/-- What is made of it once the cells are shared. -/
def G' (c : Dev nD) : sProp 𝕄 := iprop(∃ K, records m K ∗ linear c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun x : Cl => Φ (kcell (c, x)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum]
    exact congrArg₂ BIBase.sep rfl (bigSep_singleton ..)
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G before; simp only [bigSep_sep']
  isplitl [Hst']; · iexact Hst'
  isplitl [Hat']; · iexact Hat'
  isplitl [Hr'] <;> iassumption

/-- One device's cells are made shared. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Cl => iprop(∃ κ : ℕ, cellInv ER (sched m) κ (kcell (c, x))))
          ∗ (bigSep Finset.univ fun x : Cl => before c x) ∗ (bigSep Finset.univ fun x : Cl => reached ER (kcell (c, x)) 0) ∗ toks c) := by
  unfold G
  iintro ⟨Hos, Hus, Hst, Hat, Hr, Htok⟩
  ihave Hv := (Entails.of_eq (sems0_eq (F := F) c).symm) $$ [Hos Hus]
  · isplitl [Hus] <;> iassumption
  imod (show iprop((bigSep Finset.univ fun x : Cl => semVal (kcell (c, x)) 0) ∗ bigSep Finset.univ fun x : Cl => roundState ER (sched m) (kcell (c, x)) 0)
      ⊢ (|={Set.univ}=> bigSep Finset.univ fun x : Cl => iprop(∃ κ : ℕ, cellInv ER (sched m) κ (kcell (c, x))) : sProp 𝕄) from by
        rw [← bigSep_sep']
        exact (bigSep_mono fun x _ => (Rounds.body_intro ER (sched m) (kcell (c, x))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

omit [FloatOps F] in
/-- The tokens exchanged: each neighbour gets those of the duties it pays. -/
theorem toks_around : (bigSep Finset.univ fun c : Dev nD => (toks c : sProp 𝕄)) ⊢ bigSep Finset.univ fun c : Dev nD => payToks c := by
  unfold toks payToks
  simp only [every_cell, bigSep_sep']
  rw [bigSep_univ_equiv ySwap (fun c : Dev nD => (tok c cBar false : sProp 𝕄)),
    bigSep_univ_equiv xSwap (fun c : Dev nD => (tok c cBar true : sProp 𝕄)),
    bigSep_univ_equiv ySwap (fun c : Dev nD => (every (fun k => tok c (cYRecv k) false) : sProp 𝕄)),
    bigSep_univ_equiv xSwap (fun c : Dev nD => (every (fun k => tok c (cXRecv k) false) : sProp 𝕄))]
  iintro ⟨⟨Hb, Hk, HyS, HyR, HxS, HxR, Hst, Ho⟩, Hb'⟩
  isplitl [Hb]; · iexact Hb
  isplitl [Hb']; · iexact Hb'
  isplitl [Hk]; · iexact Hk
  isplitl [HyS]; · iexact HyS
  isplitl [HyR]; · iexact HyR
  isplitl [HxS]; · iexact HxS
  isplitl [HxR]; · iexact HxR
  isplitl [Hst] <;> iassumption

/-- The records shared among the devices, and what each device keeps of its own. -/
theorem regroup :
    (bigSep Finset.univ fun c : Dev nD => iprop((bigSep Finset.univ fun x : Cl => iprop(∃ κ : ℕ, cellInv ER (sched m) κ (kcell (c, x))))
          ∗ (bigSep Finset.univ fun x : Cl => before c x) ∗ (bigSep Finset.univ fun x : Cl => reached ER (kcell (c, x)) 0) ∗ toks c) : sProp 𝕄)
      ⊢ bigSep Finset.univ (G' m) := by
  have h (K : Dev nD × Cl → ℕ) : iprop(records m K ∗ (bigSep Finset.univ fun c : Dev nD => bigSep Finset.univ fun x : Cl => before (F := F) c x) ∗ bigSep Finset.univ fun c : Dev nD => payToks (F := F) c)
      ⊢ bigSep Finset.univ (G' m) := by
    refine (sep_mono_left (BI.bigSep_of_persistent (Finset.univ : Finset (Dev nD)) (records m K))).trans ?_
    rw [← bigSep_sep', ← bigSep_sep']
    refine bigSep_mono fun c _ => ?_
    show _ ⊢ G' m c
    unfold G' linear
    iintro ⟨HR, Hb, Ht⟩
    iexists K
    isplitl [HR]; · iexact HR
    isplitl [Hb] <;> iassumption
  rw [bigSep_sep', bigSep_sep', bigSep_sep', ← bigSep_univ_prod (fun cx : Dev nD × Cl => iprop(∃ κ : ℕ, cellInv ER (sched m) κ (kcell cx))),
    ← bigSep_univ_prod (fun cx : Dev nD × Cl => (reached ER (kcell cx) 0 : sProp 𝕄))]
  iintro ⟨HI, Hat, #HR, Htok⟩
  ihave HK := (BI.bigSep_exists_pi Finset.univ (fun (cx : Dev nD × Cl) (κ : ℕ) => (cellInv ER (sched m) κ (kcell cx) : sProp 𝕄))) $$ HI
  icases HK with ⟨%K, #HI⟩
  ihave Htk := (toks_around (F := F)) $$ Htok
  iapply (h K)
  isplitr
  · unfold records; isplitl; · iexact HI
    iexact HR
  isplitl [Hat] <;> iassumption

/-- The step of all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem tally_at (e c : Dev nD) (y x : Cl) (n : ℕ) :
    (tallyAt (kcell (e, y)) () n : CellTallies nD τ sig Unit) (kcell (c, x)) () = if e = c ∧ y = x then n else 0 := by
  rw [tallyAt_apply]
  refine if_congr ⟨fun h => ?_, fun h => ?_⟩ rfl rfl
  · have := kcell_inj h.1; cases this; exact ⟨rfl, rfl⟩
  · obtain ⟨rfl, rfl⟩ := h; exact ⟨rfl, rfl⟩

theorem sum_at (l : List (CellTallies nD τ sig Unit)) (g : GSem nD τ sig) : l.sum g () = (l.map fun T => T g ()).sum := by
  induction l with
  | nil => rfl
  | cons T l ih => rw [List.sum_cons, Pi.add_apply, Finsupp.add_apply, List.map_cons, List.sum_cons, ih]

theorem owX_at (d c : Dev nD) (x : Cl) : owX d pieces (kcell (c, x)) () = ∑ k : Fin 32, if xN d = c ∧ cXRecv k = x then N else 0 := by
  unfold owX
  rw [sum_at, List.map_map, Fin.sum_univ_def]
  exact congrArg List.sum (List.map_congr_left fun k _ => tally_at _ _ _ _ _)
theorem owY_at (d c : Dev nD) (x : Cl) : owY d pieces (kcell (c, x)) () = ∑ k : Fin 32, if yN d = c ∧ cYRecv k = x then N else 0 := by
  unfold owY
  rw [sum_at, List.map_map, Fin.sum_univ_def]
  exact congrArg List.sum (List.map_congr_left fun k _ => tally_at _ _ _ _ _)

theorem O₀_at (d c : Dev nD) (x : Cl) : O₀ d (kcell (c, x)) ()
    = (∑ k : Fin 32, if xN d = c ∧ cXRecv k = x then N else 0) + (∑ k : Fin 32, if yN d = c ∧ cYRecv k = x then N else 0)
      + (if xN d = c ∧ cBar = x then 1 else 0) + (if yN d = c ∧ cBar = x then 1 else 0) := by
  unfold O₀
  simp only [Pi.add_apply, Finsupp.add_apply, owX_at, owY_at, tally_at]

theorem xN_eq_iff (d c : Dev nD) : xN d = c ↔ d = xN c := ⟨fun h => by rw [← h, xN_xN], fun h => by rw [h, xN_xN]⟩
theorem yN_eq_iff (d c : Dev nD) : yN d = c ↔ d = yN c := ⟨fun h => by rw [← h, yN_yN], fun h => by rw [h, yN_yN]⟩

theorem owed_bar (c : Dev nD) : ∑ d : Dev nD, O₀ d (kcell (c, cBar)) () = 2 := by
  simp [O₀_at, xN_eq_iff, yN_eq_iff, Finset.sum_add_distrib]
theorem owed_yRecv (c : Dev nD) (k : Fin 32) : ∑ d : Dev nD, O₀ d (kcell (c, cYRecv k)) () = N := by
  simp [O₀_at, xN_eq_iff, yN_eq_iff, ite_and]
theorem owed_xRecv (c : Dev nD) (k : Fin 32) : ∑ d : Dev nD, O₀ d (kcell (c, cXRecv k)) () = N := by
  simp [O₀_at, xN_eq_iff, yN_eq_iff, ite_and]

theorem launch_at (c : Dev nD) (x : Cl) (n : ℕ) (h : ∑ d : Dev nD, O₀ d (kcell (c, x)) () = n) :
    tallyOn (kcell (c, x)) (launchCredit (Pipeline.owing O₀) 0 (kcell (c, x))) = (tallyAt (kcell (c, x)) () n : CellTallies nD τ sig Unit) := by
  unfold tallyAt; refine congrArg _ (Finsupp.ext fun u => ?_); cases u
  rw [Pipeline.launchCredit_owing, Finsupp.single_eq_same]
  exact h

omit [FloatOps F] in
theorem creds (c : Dev nD) : (Pipeline.launchCred O₀ c : sProp 𝕄) ⊢ credits c := by
  unfold Pipeline.launchCred credits due
  have h : (bigSep Finset.univ fun s : SemLoc sig => cred (tallyOn ((c : Thread nD τ), s) (launchCredit (Pipeline.owing O₀) 0 ((c : Thread nD τ), s))) : sProp 𝕄)
      ⊢ bigSep Finset.univ fun x : Cl => cred (tallyOn (kcell (c, x)) (launchCredit (Pipeline.owing O₀) 0 (kcell (c, x)))) :=
    (bigSep_subset (Finset.subset_univ (Finset.univ.map ⟨csem, csem_inj⟩))).trans (Entails.of_eq (bigSep_map ..))
  rw [every_cell] at h
  simp only [launch_at c cBar 2 (owed_bar c), fun k => launch_at c (cYRecv k) N (owed_yRecv c k), fun k => launch_at c (cXRecv k) N (owed_xRecv c k)] at h
  iintro H
  icases h $$ H with ⟨Hb, -, -, Hy, -, Hx, -, -⟩
  isplitl [Hb]; · iexact Hb
  isplitl [Hy]; · iexact Hy
  iexact Hx

end Cert.KernelIdealProof

end
-- ==== Proof.KernelIdealRun.lean ====
/-
# The run

Every run of the kernel ends, with its arguments unchanged, the result as computed and every semaphore at zero.
-/
module

public import Idealize.ShloMosaic.Lib.Pipeline.CollectiveSegs
public import proofs.«01_k».proof.Proof.KernelIdealLaunch

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The two arrays that the body reads and writes in place, as launched. -/
def entry (c : Dev nD) : sProp 𝕄 :=
  iprop(start m c ∗ whole c main_arg0 (m ((c : Thread nD τ).loc main_arg0)) ∗ whole c main_v1 (m ((c : Thread nD τ).loc main_v1)))

/-- What is left of them after the body, and the barrier's counter. -/
def leave (c : Dev nD) : sProp 𝕄 :=
  iprop(whole c main_arg0 (m ((c : Thread nD τ).loc main_arg0)) ∗ whole c main_v1 (resultOf m c) ∗ unscopedSems0 c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(entry m c ∗ emp) := by
  rw [Pipeline.unscopedRestP_none, unscopedRest0_eq]
  iintro ⟨⟨Ha, Hv⟩, Hlev, Hcr, -, HG⟩
  ihave Hc := (creds (F := F) c) $$ Hcr
  imodintro
  unfold entry start G'
  isplitl
  · isplitl [HG Hc Hlev]
    · isplitl [HG]; · iexact HG
      isplitl [Hc] <;> iassumption
    isplitl [Ha] <;> iassumption
  · iempintro

theorem phi0_intro (c : Dev nD) :
    iprop(entry m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ entry scratch
  iintro ⟨Hs, -, Hr⟩
  isplitl [Hs] <;> iassumption

theorem phi1_exit (c : Dev nD) :
    (dats m 0 c).Φ (Fin.last cfg0.N) ⊢ iprop(leave m c ∗ Pipeline.ownSems0 osem c ∗ Pipeline.scopedRest cfg0.spec c) := by
  rw [show (dats m 0 c).Φ (Fin.last cfg0.N) = Φ₁ m c from rfl, scopedRest0_eq]
  unfold Φ₁ leave scratch
  rw [sems0_eq]
  iintro ⟨Ha, Hv, Hs, Hu, Ho⟩
  isplitl [Ha Hv Hu]
  · isplitl [Ha]; · iexact Ha
    isplitl [Hv] <;> iassumption
  isplitl [Ho] <;> iassumption

theorem waits (c : Dev nD) : (levAts L lv : sProp 𝕄) ⊢ Pipeline.cellsWaits cfgs (dats m) () 0 c :=
  Pipeline.cellsWaits_intro cfgs (dats m) () 0 c fun w s t => by
    refine mayWait 0 c _ (le_of_eq ?_) _ fun g u h => ?_
    · show lv ((c : Thread nD τ), .dma ((spec0 w).sem s)) () = 0
      unfold lv; rw [show cellOfSem (((c : Thread nD τ), SemLoc.dma ((spec0 w).sem s)) : GSem nD τ sig).2 = none from cellOfSem_stage _ (stage_sem w s)]
    · rcases t with ⟨_ | _, ht⟩
      · exact O₀_pos h
      · exact absurd h (Nat.lt_irrefl 0)

/-- A buffer held whole is what the memory holds. -/
theorem read_whole (c : Dev nD) (b : Ref sig .tc) (f : Buf (Elt F) ((c : Thread nD τ).loc b)) (s' : Phys nD τ sig (Elt F)) :
    iprop(whole c b f ∗ SI s') ⊢ (iprop(⌜s'.mem.mem ((c : Thread nD τ).loc b) = f⌝ ∗ SI s') : sProp 𝕄) := by
  iintro ⟨H, HSI⟩
  icombine HSI H gives %h
  isplitr
  · ipureintro; exact Buf.eq_of_forall_mem_univ h
  iexact HSI

/-- What the final memory holds, and its counters. -/
def QC : PUnit × MemSt nD τ sig (Elt F) → Prop := fun r => ∀ c : Dev nD,
  r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = resultOf m c

set_option maxRecDepth 100000 in
/-- From any memory with zero counters every run ends, and then every device holds its arguments unchanged, its block of the
    result as computed, and every semaphore counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := fun c w => by fin_cases w <;> rfl)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := entry m) (Y := leave m) (Z := fun _ => iprop(emp))
    (hX := start_intro m ρ) (hin := phi0_intro m) (hout := phi1_exit m)
    (QY := fun c s => s.mem ((c : Thread nD τ).loc main_arg0) = m ((c : Thread nD τ).loc main_arg0)
      ∧ s.mem ((c : Thread nD τ).loc main_v1) = resultOf m c ∧ ∀ sm : SemLoc sig, sm.isScoped .tc = false → s.sem ((c.tc : Thread nD τ), sm) = 0)
    (hY := fun c s' => by
      unfold leave
      iintro ⟨⟨Ha, Hv, Hu⟩, -, HSI⟩
      ihave Ha' := (read_whole c main_arg0 _ s') $$ [Ha HSI]
      · isplitl [Ha] <;> iassumption
      icases Ha' with ⟨%ha, HSI⟩
      ihave Hv' := (read_whole c main_v1 _ s') $$ [Hv HSI]
      · isplitl [Hv] <;> iassumption
      icases Hv' with ⟨%hv, HSI⟩
      imod (Pipeline.unscopedSems0_read (X := unscopedSems0 c) (c := c) fupd_intro s') $$ [Hu HSI] with ⟨%hu, HSI⟩
      · isplitl [Hu] <;> iassumption
      imodintro
      isplitr
      · ipureintro; exact ⟨ha, hv, hu⟩
      iexact HSI)
    (hQ := fun _ h hs => ⟨fun c => ⟨(h c).2.2.1, ((h c).1 0).trans ((dats m 0 c).arrAt_in 0 rfl _), (h c).2.2.2.1⟩, sem_eq_zero hs fun c => (h c).2.2.2.2⟩)

end Cert.KernelIdealProof

end
-- ==== Proof.ValueNorm.lean ====
/-
# The normalisation of a row over the extended reals

A row is divided by the square root of its mean square plus a small constant, then scaled. Multiplying by the reciprocal of the
root is the same, since what stands under the root is positive for every row, infinite entries included.
-/
module

public import Idealize.ShloMosaic.Lib.Pointwise

@[expose] public section

noncomputable section

namespace Cert.ValueProof

open Idealize.ShloMosaic

/-- The length of a row, as the constant of both programs. -/
def width : EReal := Ideal.ofBits .f32 0x45000000#32
/-- The constant added under the root. -/
def eps : EReal := Ideal.ofBits .f32 0x358637BD#32

theorem width_pos : 0 < width := by
  have h : width = ((2048 : ℝ) : EReal) := by
    unfold width; simp [Ideal.ofBits, Ideal.ieee, -EReal.coe_mul]; norm_num
  rw [h]; exact EReal.coe_pos.mpr (by norm_num)

theorem eps_pos : 0 < eps := by
  unfold eps; simp [Ideal.ofBits, Ideal.ieee, -EReal.coe_mul]

/-- The mean square of a row plus the constant. -/
def power (y : Fin 2048 → EReal) : EReal := Ideal.div (∑ k, y k * y k) width + eps

/-- A square is not negative, of an infinity either. -/
theorem square_nonneg (x : EReal) : 0 ≤ x * x := by
  rcases le_total 0 x with h | h
  · exact mul_nonneg h h
  · rw [← neg_mul_neg]
    have := EReal.neg_nonneg.mpr h
    exact mul_nonneg this this

/-- What stands under the root is positive. -/
theorem power_pos (y : Fin 2048 → EReal) : 0 < power y := by
  have hs : 0 ≤ ∑ k, y k * y k := Finset.sum_nonneg fun k _ => square_nonneg _
  have hd : 0 ≤ Ideal.div (∑ k, y k * y k) width := by
    rw [Ideal.div, if_neg width_pos.ne']
    exact mul_nonneg hs (EReal.inv_nonneg_of_nonneg width_pos.le)
  exact lt_of_lt_of_le eps_pos (le_add_of_nonneg_left hd)

/-- Multiplying by the reciprocal root of a positive number is dividing by its root. -/
theorem mul_rsqrt (x s : EReal) (hs : 0 < s) : x * Ideal.rsqrt s = Ideal.div x (Ideal.sqrt s) := by
  induction s with
  | bot => exact absurd hs (not_lt_bot)
  | top => rw [Ideal.rsqrt_top, Ideal.sqrt_top, Ideal.div, if_neg EReal.top_ne_zero, EReal.inv_top]
  | coe r =>
    have hr : 0 < r := EReal.coe_pos.mp hs
    have hq : Real.sqrt r ≠ 0 := (Real.sqrt_pos.mpr hr).ne'
    rw [Ideal.rsqrt_coe, Ideal.sqrt_coe, if_neg hr.not_gt, if_neg hr.ne', if_neg hr.not_gt, Ideal.div,
      if_neg (by exact_mod_cast hq), EReal.coe_inv]

/-- The normalised row `y` scaled by `g`, at the position `j`. -/
def normAt (y : Fin 2048 → EReal) (g : Fin 2048 → EReal) (j : Fin 2048) : EReal := Ideal.div (y j) (Ideal.sqrt (power y)) * g j

end Cert.ValueProof

end
-- ==== Proof.ValueBlock.lean ====
/-
# What the kernel computes of one block

A block of 32 rows: the two summands added, each row normalised and scaled.
-/
module

public import proofs.«01_k».proof.Proof.KernelIdealPieces
public import proofs.«01_k».proof.Proof.ValueNorm

@[expose] public section

noncomputable section

namespace Cert.ValueProof

open Cert.KernelIdeal Cert.KernelIdeal.Gen Cert.KernelIdealProof
open Idealize.ShloMosaic

/-- Row `r` of the block is the normalised sum of the rows `r` of the two summands. -/
theorem normed_at (a b : FVec Ideal S32x2048 .f32) (g : FVec Ideal S2048 .f32) (r : Fin 32) (j : Fin 2048) :
    normed (F := Ideal) a b g (ix2 r j) = normAt (fun k => a (ix2 r k) + b (ix2 r k)) (fun k => g (ix1 k)) j := by
  unfold normAt
  rw [← mul_rsqrt _ _ (power_pos _)]
  unfold power width eps
  pointwise [normed, k0_pay4]

end Cert.ValueProof

end
-- ==== Proof.ValueReference.lean ====
/-
# What the reference computes

Each row of the result is the normalised sum of the rows of the two summands.
-/
module

public import proofs.«01_k».proof.Proof.Gen.ReferenceIdeal.Run
public import proofs.«01_k».proof.Proof.ValueNorm

@[expose] public section

noncomputable section

namespace Cert.ValueProof

open Cert.ReferenceIdeal Cert.ReferenceIdeal.Gen
open Idealize.ShloMosaic

/-- The sum of the two summands. -/
def total (p : FVec Ideal S2x4096x2048 .f32) : FVec Ideal S4096x2048 .f32 :=
  Host.reduceAdd p (constant S_ .f32 0x00000000#32) reducesTo_S2x4096x2048_S4096x2048_d0 h_S_

/-- The reference's result, of the summands `p` and the scale `g`. -/
def expected (p : FVec Ideal S2x4096x2048 .f32) (g : FVec Ideal S2048 .f32) : FVec Ideal S4096x2048 .f32 :=
  mulf (Host.divf (total p) (broadcastInDim S4096x2048 ![0, 1] bcast_S4096x1_S4096x2048_0_1 (Host.sqrt (addf (Host.divf
    (broadcastInDim S4096x1 ![0] bcast_S4096_S4096x1_0 (Host.reduceAdd (mulf (total p) (total p)) (constant S_ .f32 0x00000000#32) reducesTo_S4096x2048_S4096_d1 h_S_))
    (broadcastInDim S4096x1 ![] bcast_S_S4096x1 (constant S_ .f32 0x45000000#32))) (broadcastInDim S4096x1 ![] bcast_S_S4096x1 (constant S_ .f32 0x358637BD#32))))))
    (broadcastInDim S4096x2048 ![0, 1] bcast_S1x2048_S4096x2048_0_1 (broadcastInDim S1x2048 ![1] bcast_S2048_S1x2048_1 g))

theorem total_at (p : FVec Ideal S2x4096x2048 .f32) (r : Fin 4096) (j : Fin 2048) :
    total p (ix2 r j) = p (ix3 0 r j) + p (ix3 1 r j) := by
  pointwise [total]
  rw [Fin.sum_univ_two]

/-- Row `r` of the result is the normalised sum of the rows `r` of the two summands. -/
theorem expected_at (p : FVec Ideal S2x4096x2048 .f32) (g : FVec Ideal S2048 .f32) (r : Fin 4096) (j : Fin 2048) :
    expected p g (ix2 r j) = normAt (fun k => p (ix3 0 r k) + p (ix3 1 r k)) (fun k => g (ix1 k)) j := by
  unfold normAt power width eps
  simp only [← total_at]
  generalize hT : total p = T
  unfold expected
  rw [hT]
  pointwise

end Cert.ValueProof

end
-- ==== Proof.ValueEquation.lean ====
/-
# The equation

Device `c`'s result is its block of rows of the reference's result. Of that block it and the device beside it along `x` compute
one half each; the device that computes a row adds its own row of the summand to its neighbour's.
-/
module

public import proofs.«01_k».proof.Proof.KernelIdealRows
public import proofs.«01_k».proof.Proof.ValueBlock
public import proofs.«01_k».proof.Proof.ValueReference
public import Idealize.ShloMosaic.Lib.Layout

@[expose] public section

noncomputable section

namespace Cert.ValueProof

open Cert.KernelIdeal Cert.KernelIdeal.Gen Cert.KernelIdealProof
open Idealize.ShloMosaic
open Idealize.ShloMosaic.TcCoe

variable (m : (ℓ : Loc nD τ sig) → Buf (Elt Ideal) ℓ)

/-- The summands of the two columns of the mesh, as one array. -/
abbrev Summands : Type := (⟨3, ![2, 4096, 2048]⟩ : Shape).Idx → EReal

/-- Every device holds the summand of its column. -/
def Given (P : Summands) : Prop := ∀ c : Dev nD, m ((c : Thread nD τ).loc main_arg0)
  = Layout.blockN ⟨3, ![1, 4096, 2048]⟩ ⟨3, ![2, 4096, 2048]⟩ (Layout.meshBlock [2, 2] ![[1], [], []] c) P

theorem block_of (c : Dev nD) : ((Layout.meshBlock [2, 2] ![[1], [], []] c) 0).val = c.val % 2 := by revert c; decide
theorem result_block_of (c : Dev nD) : ((Layout.meshBlock [2, 2] ![[1], []] c) 0).val = c.val % 2 := by revert c; decide

/-- The summand that a device holds. -/
abbrev column (c : Dev nD) : Fin 2 := ⟨c.val % 2, Nat.mod_lt _ (by decide)⟩

variable {m} in
theorem summand_at {P : Summands} (h : Given m P) (d : Dev nD) (i : S1x4096x2048.Idx) :
    (summand m d i : EReal) = P (ix3 (column d) (i 1) (i 2)) := by
  unfold summand
  rw [h d, Layout.blockN_apply]
  refine congrArg P (funext fun a => Fin.ext ?_)
  have h0 : (i 0).val < 1 := (i 0).isLt
  rw [Layout.TilesN.idx_val]
  match a with
  | ⟨0, _⟩ =>
    show ((Layout.meshBlock [2, 2] ![[1], [], []] d) 0).val * 1 + (i 0).val = d.val % 2
    rw [block_of]; omega
  | ⟨1, _⟩ => show 0 * 4096 + (i 1).val = (i 1).val; omega
  | ⟨2, _⟩ => show 0 * 2048 + (i 2).val = (i 2).val; omega

/-- Row `r` of piece `k` of the quarter that device `e` keeps, among the rows of a summand. -/
def rowAt (e : Dev nD) (k : Fin 32) (r : Fin 32) : Fin 4096 :=
  ⟨2048 * (e.val % 2) + 1024 * (e.val / 2) + 32 * k.val + r.val, by have := dev_div e; have := dev_mod e; have := k.isLt; have := r.isLt; omega⟩

variable {m} in
theorem piece_at {P : Summands} (h : Given m P) (e d : Dev nD) (k r : Fin 32) (l : Fin 2048) :
    (pieceOf (rowsOf m e d) k (ix2 r l) : EReal) = P (ix3 (column d) (rowAt e k r) l) := by
  show (summand m d (keepAt e ((rK k).emb (ix2 r l))) : EReal) = _
  rw [summand_at h]
  refine congrArg P (congrArg₂ (ix3 (column d)) (Fin.ext ?_) (Fin.ext ?_))
  · show 2048 * (e.val % 2) + 1024 * (e.val / 2) + (32 * k.val + 1 * r.val) = 2048 * (e.val % 2) + 1024 * (e.val / 2) + 32 * k.val + r.val
    omega
  · show 0 + 1 * l.val = l.val
    omega

/-- The two devices of a row of the mesh hold the two summands. -/
theorem both (f : Fin 2 → EReal) (e : Dev nD) : f (column e) + f (column (yN e)) = f 0 + f 1 := by
  have hy := yN_mod e
  rcases Nat.mod_two_eq_zero_or_one e.val with h | h
  · rw [show column e = 0 from Fin.ext h, show column (yN e) = 1 from Fin.ext (by show (yN e).val % 2 = 1; omega)]
  · rw [show column e = 1 from Fin.ext h, show column (yN e) = 0 from Fin.ext (by show (yN e).val % 2 = 0; omega), add_comm]

theorem scale_eq (c : Dev nD) : scale m c = m ((c : Thread nD τ).loc main_arg1) := by
  funext i
  show m ((c : Thread nD τ).loc main_arg1) _ = _
  refine congrArg _ (funext fun a => Fin.ext ?_)
  match a with
  | ⟨0, _⟩ => show 0 * 2048 + 1 * (i 0).val = (i 0).val; omega

variable {m} in
/-- What device `e` computes of its quarter. -/
theorem quarter_at {P : Summands} {G : S2048.Idx → EReal} (h : Given m P) (hg : ∀ c : Dev nD, m ((c : Thread nD τ).loc main_arg1) = G)
    (e : Dev nD) (k r : Fin 32) (l : Fin 2048) :
    (normedOf m e k (ix2 r l) : EReal) = expected P G (ix2 (rowAt e k r) l) := by
  unfold normedOf
  rw [scale_eq, hg e]
  rw [expected_at]
  refine (normed_at _ _ _ r l).trans (congrArg (normAt · _ l) (funext fun j => ?_))
  rw [piece_at h, piece_at h]
  exact both (fun s => P (ix3 s (rowAt e k r) j)) e

variable {m} in
/-- Device `c`'s result is its block of the reference's. -/
theorem result_eq {P : Summands} {G : S2048.Idx → EReal} (h : Given m P) (hg : ∀ c : Dev nD, m ((c : Thread nD τ).loc main_arg1) = G)
    (c : Dev nD) : resultOf m c
      = Layout.blockN ⟨2, ![2048, 2048]⟩ ⟨2, ![4096, 2048]⟩ (Layout.meshBlock [2, 2] ![[1], []] c) (expected P G) := by
  funext i
  have h0 : (i 0).val < 2048 := (i 0).isLt
  have hc := dev_mod c
  rw [Layout.blockN_apply]
  unfold resultOf quarterOf
  refine (quarter_at h hg _ _ _ _).trans (congrArg (expected P G) (funext fun a => Fin.ext ?_))
  rw [Layout.TilesN.idx_val]
  match a with
  | ⟨0, _⟩ =>
    show 2048 * ((2 * ((i 0).val / 1024) + c.val % 2) % 2) + 1024 * ((2 * ((i 0).val / 1024) + c.val % 2) / 2) + 32 * ((i 0).val % 1024 / 32)
      + (i 0).val % 1024 % 32 = ((Layout.meshBlock [2, 2] ![[1], []] c) 0).val * 2048 + (i 0).val
    rw [result_block_of]; omega
  | ⟨1, _⟩ => show (i 1).val = 0 * 2048 + (i 1).val; omega

end Cert.ValueProof

end
-- ==== Proof.lean ====
/-
# The claims

The runs of the kernel (KernelRun, and KernelIdealRun over the extended reals) and of the reference, with the equation between
what they compute (ValueEquation), give the frames and the algebraic claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.ValueEquation
public import Idealize.ShloMosaic.Adequacy
public import Idealize.ShloMosaic.Init

@[expose] public section

noncomputable section

namespace Cert.Proof

open Idealize.ShloMosaic Idealize.SL.Sem Cert.Kernel

open Idealize.ShloMosaic.TcCoe

/-- The kernel's frame: every run ends, the arguments unchanged and every counter at zero. -/
theorem frame_Kernel : Cert.quiescent_Kernel := fun m ρ _ =>
  (θ_run _ _ _).mono (fun _ h => ⟨fun c => ⟨(h.1 c).1, (h.1 c).2.1⟩, h.2⟩) (Cert.KernelProof.run_main m ρ)

/-- The same of the kernel over the extended reals. -/
theorem frame_KernelIdeal : Cert.quiescent_KernelIdeal := fun m ρ _ =>
  (θ_run _ _ _).mono (fun _ h => ⟨fun c => ⟨(h.1 c).1, (h.1 c).2.1⟩, h.2⟩) (Cert.KernelIdealProof.run_main m ρ)

/-- The reference's frame: every run ends, the arguments unchanged; it has no semaphore. -/
theorem frame_ReferenceIdeal : Cert.quiescent_ReferenceIdeal := fun m ρ _ =>
  (θ_run _ _ _).mono (fun r h => ⟨fun c => ⟨(h c).2.1, (h c).2.2⟩, sem_eq_zero_of_no_sems (by decide) r.2⟩) (Cert.ReferenceIdeal.Value.run m ρ)

/-- Over the extended reals every device's result is its block of the reference's. -/
theorem algebraic : Cert.algebraic_KernelIdeal_ReferenceIdeal := fun m ρ m' ρ' _ h =>
  ⟨Cert.ValueProof.expected (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1)),
    (θ_run _ _ _).mono (fun _ H c => ⟨(H.1 c).2.2.trans (Cert.ValueProof.result_eq (fun c => (h c).1) (fun c => (h c).2) c), (H.1 c).1, (H.1 c).2.1⟩)
      (Cert.KernelIdealProof.run_main m ρ),
    (θ_run _ _ _).mono (fun _ H => H 0) (Cert.ReferenceIdeal.Value.run m' ρ')⟩

theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
